-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x8192 : Shape := ⟨2, ![2048, 8192]⟩
abbrev S1x2048 : Shape := ⟨2, ![1, 2048]⟩
abbrev S1x8192 : Shape := ⟨2, ![1, 8192]⟩
abbrev S_ : Shape := ⟨0, ![]⟩

class Facts : Prop where
  bcast_S_S2048x8192 : S_.BroadcastsInDim S2048x8192 (![] : Fin 0 → Fin S2048x8192.rank)
  bcast_S_S1x2048 : S_.BroadcastsInDim S1x2048 (![] : Fin 0 → Fin S1x2048.rank)
  bcast_S_S1x8192 : S_.BroadcastsInDim S1x8192 (![] : Fin 0 → Fin S1x8192.rank)

variable [Facts]

def fn {F : FTy → Type} [FloatOps F] (main_arg0 : FVec F S2048x8192 .f32) (main_arg1 : FVec F S1x2048 .f32) (main_arg2 : FVec F S1x8192 .f32) (main_arg3 : FVec F S1x8192 .f32) : IVec S2048x8192 1 × IVec S1x2048 1 × IVec S1x8192 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x8192 .f32 := Host.absf main_arg3
  let main_cst_1 : FVec F S_ .f32 := constant S_ .f32 0x7F800000#32
  let main_v7 : FVec F S1x8192 .f32 := broadcastInDim S1x8192 ![] bcast_S_S1x8192 main_cst_1
  let main_v8 : IVec S1x8192 1 := cmpf .olt main_v6 main_v7
  (main_v2, main_v5, main_v8)
-- ==== Kernel.lean ====
abbrev S2048x8192 : Shape := ⟨2, ![2048, 8192]⟩
abbrev S1x2048 : Shape := ⟨2, ![1, 2048]⟩
abbrev S1x8192 : Shape := ⟨2, ![1, 8192]⟩
abbrev S_ : Shape := ⟨0, ![]⟩
abbrev S3072x2048 : Shape := ⟨2, ![3072, 2048]⟩
abbrev S1 : Shape := ⟨1, ![1]⟩
abbrev S1x1 : Shape := ⟨2, ![1, 1]⟩
abbrev S2048x512 : Shape := ⟨2, ![2048, 512]⟩
abbrev S512x2048 : Shape := ⟨2, ![512, 2048]⟩
abbrev S2x8192 : Shape := ⟨2, ![2, 8192]⟩
abbrev S2x512 : Shape := ⟨2, ![2, 512]⟩
abbrev S2x2048 : Shape := ⟨2, ![2, 2048]⟩
abbrev S1x512 : Shape := ⟨2, ![1, 512]⟩
abbrev S2x256 : Shape := ⟨2, ![2, 256]⟩
abbrev S256x8192 : Shape := ⟨2, ![256, 8192]⟩
abbrev S1x256 : Shape := ⟨2, ![1, 256]⟩

abbrev nBuf : Space → Nat
  | .hbm => 13
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S1x2048, .f32⟩
  | .hbm, ⟨2, _⟩ => ⟨S1x8192, .f32⟩
  | .hbm, ⟨3, _⟩ => ⟨S1x8192, .f32⟩
  | .hbm, ⟨4, _⟩ => ⟨S2048x8192, .bf16⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S2048x8192, .fp8e4m3⟩
  | .hbm, ⟨11, _⟩ => ⟨S1x8192, .f32⟩
  | .hbm, ⟨12, _⟩ => ⟨S1x2048, .f32⟩
  | .local _ .vmem, ⟨0, _⟩ => ⟨S2048x8192, .bf16⟩
  | .local _ .vmem, ⟨1, _⟩ => ⟨S2048x8192, .fp8e4m3⟩
  | .local _ .vmem, ⟨2, _⟩ => ⟨S1x2048, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x2048, .f32⟩
  | .local _ .vmem, ⟨7, _⟩ => ⟨S3072x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c30_i32 : BitVec 32 := 30#32
  let v61 : BitVec 32 := Scalar.addi c0_i32 c30_i32
  let c1_i32 : BitVec 32 := 1#32
  ⟨c0_i32, v61, c1_i32⟩
abbrev stage0_0 : Fin 1 → Memref sig .tc .vmem S2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S2048x8192 : Shape := ⟨2, ![2048, 8192]⟩
abbrev S1x2048 : Shape := ⟨2, ![1, 2048]⟩
abbrev S1x8192 : Shape := ⟨2, ![1, 8192]⟩
abbrev S_ : Shape := ⟨0, ![]⟩
abbrev S1 : Shape := ⟨1, ![1]⟩
abbrev S1x1 : Shape := ⟨2, ![1, 1]⟩
abbrev S2048 : Shape := ⟨1, ![2048]⟩
abbrev S8192 : Shape := ⟨1, ![8192]⟩

abbrev nBuf : Space → Nat
  | .hbm => 176
  | .vmem => 0
  | .smem => 0
  | _ => 0

abbrev hbmTy0_0 (i : Nat) : BufTy := match i % 128 with
  | 0 => ⟨S2048x8192, .f32⟩
  | 1 => ⟨S1x2048, .f32⟩
  | 2 => ⟨S1x8192, .f32⟩
  | 3 => ⟨S1x8192, .f32⟩
  | 4 => ⟨S_, .f32⟩
  | 5 => ⟨S1x8192, .f32⟩
  | 6 => ⟨S1x8192, .f32⟩
  | 7 => ⟨S1x2048, .f32⟩
  | 8 => ⟨S_, .f32⟩
  | 9 => ⟨S1, .f32⟩
  | 10 => ⟨S1x1, .f32⟩
  | 11 => ⟨S_, .f32⟩
  | 12 => ⟨S1x1, .f32⟩
  | 13 => ⟨S_, .f32⟩
  | 14 => ⟨S1x1, .f32⟩
  | 15 => ⟨S_, .f32⟩
  | 16 => ⟨S1x2048, .f32⟩
  | 17 => ⟨S_, .f32⟩
  | 18 => ⟨S1x2048, .f32⟩
  | 19 => ⟨S_, .i1⟩
  | 20 => ⟨S1x1, .i1⟩
  | 21 => ⟨S2048, .f32⟩
  | 22 => ⟨S8192, .f32⟩
  | 23 => ⟨S1x8192, .f32⟩
  | 24 => ⟨S1x8192, .f32⟩
  | 25 => ⟨S1x8192, .f32⟩
  | 26 => ⟨S1x8192, .f32⟩
  | 27 => ⟨S1x8192, .f32⟩
  | 28 => ⟨S1x8192, .f32⟩
  | 29 => ⟨S_, .f32⟩
  | 30 => ⟨S1x8192, .f32⟩
  | 31 => ⟨S1x8192, .f32⟩
  | 32 => ⟨S_, .f32⟩
  | 33 => ⟨S1x8192, .f32⟩
  | 34 => ⟨S1x8192, .f32⟩
  | 35 => ⟨S_, .i32⟩
  | 36 => ⟨S_, .i32⟩
  | 37 => ⟨S2048x8192, .f32⟩
  | 38 => ⟨S1x8192, .f32⟩
  | 39 => ⟨S1x8192, .f32⟩
  | 40 => ⟨S1x8192, .f32⟩
  | 41 => ⟨S1x2048, .f32⟩
  | 42 => ⟨S1x1, .f32⟩
  | 43 => ⟨S_, .i32⟩
  | 44 => ⟨S_, .i32⟩
  | 45 => ⟨S1x1, .f32⟩
  | 46 => ⟨S1x1, .f32⟩
  | 47 => ⟨S1x2048, .f32⟩
  | 48 => ⟨S1x2048, .f32⟩
  | 49 => ⟨S1x1, .i1⟩
  | 50 => ⟨S1x8192, .f32⟩
  | 51 => ⟨S_, .i32⟩
  | 52 => ⟨S_, .i1⟩
  | 53 => ⟨S_, .i32⟩
  | 54 => ⟨S_, .i32⟩
  | 55 => ⟨S_, .f32⟩
  | 56 => ⟨S1x1, .f32⟩
  | 57 => ⟨S1x1, .f32⟩
  | 58 => ⟨S_, .f32⟩
  | 59 => ⟨S1x1, .f32⟩
  | 60 => ⟨S1x1, .f32⟩
  | 61 => ⟨S1x1, .f32⟩
  | 62 => ⟨S1x1, .f32⟩
  | 63 => ⟨S1x1, .f32⟩
  | 64 => ⟨S1x1, .f32⟩
  | 65 => ⟨S1x1, .f32⟩
  | 66 => ⟨S1x1, .f32⟩
  | 67 => ⟨S1x2048, .f32⟩
  | 68 => ⟨S1x2048, .f32⟩
  | 69 => ⟨S1x2048, .f32⟩
  | 70 => ⟨S1x2048, .f32⟩
  | 71 => ⟨S2048, .f32⟩
  | 72 => ⟨S8192, .f32⟩
  | 73 => ⟨S1x8192, .f32⟩
  | 74 => ⟨S1x8192, .f32⟩
  | 75 => ⟨S1x8192, .f32⟩
  | 76 => ⟨S1x8192, .f32⟩
  | 77 => ⟨S1x8192, .f32⟩
  | 78 => ⟨S1x8192, .f32⟩
  | 79 => ⟨S_, .f32⟩
  | 80 => ⟨S1x8192, .f32⟩
  | 81 => ⟨S1x8192, .f32⟩
  | 82 => ⟨S_, .f32⟩
  | 83 => ⟨S1x8192, .f32⟩
  | 84 => ⟨S1x8192, .f32⟩
  | 85 => ⟨S1x8192, .f32⟩
  | 86 => ⟨S8192, .f32⟩
  | 87 => ⟨S2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S1x2048, .f32⟩
  | 97 => ⟨S2048, .f32⟩
  | 98 => ⟨S8192, .f32⟩
  | 99 => ⟨S1x8192, .f32⟩
  | 100 => ⟨S1x8192, .f32⟩
  | 101 => ⟨S1x8192, .f32⟩
  | 102 => ⟨S1x8192, .f32⟩
  | 103 => ⟨S1x2048, .f32⟩
  | 104 => ⟨S_, .f32⟩
  | 105 => ⟨S1, .f32⟩
  | 106 => ⟨S1x1, .f32⟩
  | 107 => ⟨S1x1, .f32⟩
  | 108 => ⟨S_, .f32⟩
  | 109 => ⟨S1x1, .f32⟩
  | 110 => ⟨S1x1, .f32⟩
  | 111 => ⟨S1x1, .f32⟩
  | 112 => ⟨S_, .f32⟩
  | 113 => ⟨S1x8192, .f32⟩
  | 114 => ⟨S1x8192, .f32⟩
  | 115 => ⟨S1x8192, .f32⟩
  | 116 => ⟨S1x8192, .f32⟩
  | 117 => ⟨S1x8192, .i1⟩
  | 118 => ⟨S1x8192, .f32⟩
  | 119 => ⟨S1x8192, .f32⟩
  | 120 => ⟨S1x8192, .f32⟩
  | 121 => ⟨S1x8192, .f32⟩
  | 122 => ⟨S1x8192, .f32⟩
  | 123 => ⟨S1x8192, .f32⟩
  | 124 => ⟨S1x8192, .f32⟩
  | 125 => ⟨S1x8192, .f32⟩
  | 126 => ⟨S_, .f32⟩
  | 127 => ⟨S1x8192, .f32⟩
  | _ => ⟨S2048x8192, .f32⟩

abbrev hbmTy0_1 (i : Nat) : BufTy := match i % 128 with
  | 0 => ⟨S1x8192, .f32⟩
  | 1 => ⟨S1x8192, .f32⟩
  | 2 => ⟨S1x8192, .f32⟩
  | 3 => ⟨S1x8192, .i1⟩
  | 4 => ⟨S1x8192, .f32⟩
  | 5 => ⟨S1x8192, .f32⟩
  | 6 => ⟨S1x8192, .f32⟩
  | 7 => ⟨S1x8192, .f32⟩
  | 8 => ⟨S1x8192, .f32⟩
  | 9 => ⟨S1x8192, .f32⟩
  | 10 => ⟨S1x8192, .f32⟩
  | 11 => ⟨S1x8192, .f32⟩
  | 12 => ⟨S1x8192, .f32⟩
  | 13 => ⟨S_, .f32⟩
  | 14 => ⟨S1, .f32⟩
  | 15 => ⟨S1x1, .f32⟩
  | 16 => ⟨S_, .f32⟩
  | 17 => ⟨S1x1, .f32⟩
  | 18 => ⟨S1x1, .f32⟩
  | 19 => ⟨S1x1, .f32⟩
  | 20 => ⟨S_, .f32⟩
  | 21 => ⟨S1x1, .f32⟩
  | 22 => ⟨S1x1, .i1⟩
  | 23 => ⟨S_, .f32⟩
  | 24 => ⟨S1x1, .f32⟩
  | 25 => ⟨S1x1, .f32⟩
  | 26 => ⟨S1x1, .f32⟩
  | 27 => ⟨S_, .f32⟩
  | 28 => ⟨S1x1, .f32⟩
  | 29 => ⟨S1x1, .f32⟩
  | 30 => ⟨S1x1, .f32⟩
  | 31 => ⟨S_, .f32⟩
  | 32 => ⟨S1x1, .f32⟩
  | 33 => ⟨S1x1, .f32⟩
  | 34 => ⟨S1x1, .f32⟩
  | 35 => ⟨S1x2048, .i1⟩
  | 36 => ⟨S1x2048, .f32⟩
  | 37 => ⟨S1x2048, .i1⟩
  | 38 => ⟨S1x2048, .f32⟩
  | 39 => ⟨S1x8192, .f32⟩
  | 40 => ⟨S1x8192, .f32⟩
  | 41 => ⟨S1x8192, .f32⟩
  | 42 => ⟨S1x8192, .f32⟩
  | 43 => ⟨S1x8192, .i1⟩
  | 44 => ⟨S1x8192, .f32⟩
  | 45 => ⟨S_, .i32⟩
  | 46 => ⟨S_, .i32⟩
  | 47 => ⟨S1x8192, .f32⟩
  | _ => ⟨S2048x8192, .f32⟩

abbrev hbmTy (i : Nat) : BufTy := match i / 128 with
  | 0 => hbmTy0_0 i
  | 1 => hbmTy0_1 i
  | _ => ⟨S2048x8192, .f32⟩

abbrev bufTy : (tb : Table) → Fin (tcTables nBuf tb) → BufTy
  | .hbm, ⟨i, _⟩ => hbmTy i
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_c_8 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev main_v22_4 : Ref sig .tc := ⟨.hbm, 41, rfl⟩
abbrev main_v22_5 : Ref sig .tc := ⟨.hbm, 42, rfl⟩
abbrev main_v22_6 : Ref sig .tc := ⟨.hbm, 43, rfl⟩
abbrev main_v22_7 : Ref sig .tc := ⟨.hbm, 44, rfl⟩
abbrev main_v22_8 : Ref sig .tc := ⟨.hbm, 45, rfl⟩
abbrev main_v22_9 : Ref sig .tc := ⟨.hbm, 46, rfl⟩
abbrev main_v22_10 : Ref sig .tc := ⟨.hbm, 47, rfl⟩
abbrev main_v22_11 : Ref sig .tc := ⟨.hbm, 48, rfl⟩
abbrev main_v22_12 : Ref sig .tc := ⟨.hbm, 49, rfl⟩
abbrev main_v22_13 : Ref sig .tc := ⟨.hbm, 50, rfl⟩
abbrev main_while0c_c_22 : Ref sig .tc := ⟨.hbm, 51, rfl⟩
abbrev main_while0c_v24 : Ref sig .tc := ⟨.hbm, 52, rfl⟩
abbrev main_while0b_c_22 : Ref sig .tc := ⟨.hbm, 53, rfl⟩
abbrev main_while0b_v24 : Ref sig .tc := ⟨.hbm, 54, rfl⟩
abbrev main_while0b_cst_23 : Ref sig .tc := ⟨.hbm, 55, rfl⟩
abbrev main_while0b_v25 : Ref sig .tc := ⟨.hbm, 56, rfl⟩
abbrev main_while0b_v26 : Ref sig .tc := ⟨.hbm, 57, rfl⟩
abbrev main_while0b_cst_24 : Ref sig .tc := ⟨.hbm, 58, rfl⟩
abbrev main_while0b_v27 : Ref sig .tc := ⟨.hbm, 59, rfl⟩
abbrev main_while0b_v28 : Ref sig .tc := ⟨.hbm, 60, rfl⟩
abbrev main_while0b_v29 : Ref sig .tc := ⟨.hbm, 61, rfl⟩
abbrev main_while0b_v30 : Ref sig .tc := ⟨.hbm, 62, rfl⟩
abbrev main_while0b_v31 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_v38 : Ref sig .tc := ⟨.hbm, 70, rfl⟩
abbrev main_while0b_v39 : Ref sig .tc := ⟨.hbm, 71, rfl⟩
abbrev main_while0b_v40 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_cst_25 : Ref sig .tc := ⟨.hbm, 79, rfl⟩
abbrev main_while0b_v47 : Ref sig .tc := ⟨.hbm, 80, rfl⟩
abbrev main_while0b_v48 : Ref sig .tc := ⟨.hbm, 81, rfl⟩
abbrev main_while0b_cst_26 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_cst_27 : Ref sig .tc := ⟨.hbm, 104, rfl⟩
abbrev main_while0b_v70 : Ref sig .tc := ⟨.hbm, 105, rfl⟩
abbrev main_while0b_v71 : Ref sig .tc := ⟨.hbm, 106, rfl⟩
abbrev main_while0b_v72 : Ref sig .tc := ⟨.hbm, 107, rfl⟩
abbrev main_while0b_cst_28 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_cst_29 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_cst_30 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_cst_31 : Ref sig .tc := ⟨.hbm, 141, rfl⟩
abbrev main_while0b_v103 : Ref sig .tc := ⟨.hbm, 142, rfl⟩
abbrev main_while0b_v104 : Ref sig .tc := ⟨.hbm, 143, rfl⟩
abbrev main_while0b_cst_32 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_cst_33 : Ref sig .tc := ⟨.hbm, 148, rfl⟩
abbrev main_while0b_v108 : Ref sig .tc := ⟨.hbm, 149, rfl⟩
abbrev main_while0b_v109 : Ref sig .tc := ⟨.hbm, 150, rfl⟩
abbrev main_while0b_cst_34 : Ref sig .tc := ⟨.hbm, 151, rfl⟩
abbrev main_while0b_v110 : Ref sig .tc := ⟨.hbm, 152, rfl⟩
abbrev main_while0b_v111 : Ref sig .tc := ⟨.hbm, 153, rfl⟩
abbrev main_while0b_v112 : Ref sig .tc := ⟨.hbm, 154, rfl⟩
abbrev main_while0b_cst_35 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_cst_36 : Ref sig .tc := ⟨.hbm, 159, rfl⟩
abbrev main_while0b_v116 : Ref sig .tc := ⟨.hbm, 160, rfl⟩
abbrev main_while0b_v117 : Ref sig .tc := ⟨.hbm, 161, rfl⟩
abbrev main_while0b_v118 : Ref sig .tc := ⟨.hbm, 162, rfl⟩
abbrev main_while0b_call3_v0 : Ref sig .tc := ⟨.hbm, 163, rfl⟩
abbrev main_while0b_v119 : Ref sig .tc := ⟨.hbm, 164, rfl⟩
abbrev main_while0b_call4_v0 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_v123 : Ref sig .tc := ⟨.hbm, 169, rfl⟩
abbrev main_while0b_v124 : Ref sig .tc := ⟨.hbm, 170, rfl⟩
abbrev main_while0b_call5_v0 : Ref sig .tc := ⟨.hbm, 171, rfl⟩
abbrev main_while0b_v125 : Ref sig .tc := ⟨.hbm, 172, rfl⟩
abbrev main_while0b_c_37 : Ref sig .tc := ⟨.hbm, 173, rfl⟩
abbrev main_while0b_v126 : Ref sig .tc := ⟨.hbm, 174, rfl⟩
abbrev main_v23 : Ref sig .tc := ⟨.hbm, 175, rfl⟩

abbrev nD : Nat := 1
abbrev τ : Topo := Topo.v7x

variable {F : FTy → Type} [FloatOps F]

abbrev main_while0_count : Scf.Loop 32 := ⟨0#32, 30#32, 1#32⟩
-- ==== Proof.Step.lean ====
/- One step of the solver in plain mathematics, over real numbers: the vocabulary in which both
   programs are read. The data are a real matrix `A`, real vectors `b` and `u`, and a vector `c` whose
   entries may be infinite. A state holds the smoothness estimate `M`, the weight `beta`, the flag of
   the last test, the two dual points `eta` and `zeta` and the averaged primal point `x`. -/
module

public import Idealize.ShloMosaic.Lib.Pointwise
public import Idealize.ShloMosaic.Lib.IdealHost

@[expose] public section

noncomputable section

namespace Cert.Solver

open Idealize.ShloMosaic
open scoped BigOperators Classical

/-! ## Constants -/

/-- The tolerance `2⁻²³`, which is also the least value of `M`. -/
def eps : ℝ := 1 / 8388608

theorem bits_half : Ideal.ofBits .f32 0x3F000000#32 = ((1 / 2 : ℝ) : EReal) := by
  simp [Ideal.ofBits, Ideal.ieee, -EReal.coe_mul]; norm_num

theorem bits_quarter : Ideal.ofBits .f32 0x3E800000#32 = ((1 / 4 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_ten : Ideal.ofBits .f32 0x41200000#32 = ((10 : ℝ) : EReal) := by
  simp [Ideal.ofBits, Ideal.ieee, -EReal.coe_mul]; norm_num

theorem bits_eps : Ideal.ofBits .f32 0x34000000#32 = ((eps : ℝ) : EReal) := by
  simp [Ideal.ofBits, Ideal.ieee, -EReal.coe_mul, eps]; norm_num

/-! ## The step -/

/-- The data of one problem. -/
structure Data where
  A : Fin 2048 → Fin 8192 → ℝ
  b : Fin 2048 → ℝ
  c : Fin 8192 → EReal
  u : Fin 8192 → ℝ

/-- What one step carries to the next. -/
structure St where
  M : ℝ
  beta : ℝ
  last : Prop
  eta : Fin 2048 → ℝ
  zeta : Fin 2048 → ℝ
  x : Fin 8192 → ℝ

/-- The sigmoid, as a real number. -/
def sg (y : EReal) : ℝ := (Ideal.logistic y).toReal

/-- `log (1 + eʸ)`, in the form that does not overflow. -/
def lae (y : EReal) : EReal := max 0 y + Ideal.log1p (Ideal.exp (-(max y (-y))))

variable (D : Data) (s : St)

/-- `Aᵀ v`. -/
def col (v : Fin 2048 → ℝ) (j : Fin 8192) : ℝ := ∑ i, v i * D.A i j
/-- `A w`. -/
def row (w : Fin 8192 → ℝ) (i : Fin 2048) : ℝ := ∑ j, w j * D.A i j
/-- `-(c - p) · 10 u`. -/
def slope (p : Fin 8192 → ℝ) (j : Fin 8192) : EReal := -(D.c j - (p j : EReal)) * ((10 * D.u j : ℝ) : EReal)

/-- The step size. -/
def alpha : ℝ := (1 / 2) / s.M + Real.sqrt (((1 / 4) / s.M + s.beta) / s.M)
def beta' : ℝ := s.beta + alpha s
def tau : ℝ := alpha s / beta' s
/-- The point between `eta` and `zeta` at which the gradient is taken. -/
def lam (i : Fin 2048) : ℝ := s.eta i + tau s * (s.zeta i - s.eta i)
def negL (j : Fin 8192) : EReal := slope D (col D (lam s)) j
def xLam (j : Fin 8192) : ℝ := sg (negL D s j)
/-- `A (u · x_lambda)`. -/
def Q (i : Fin 2048) : ℝ := row D (fun j => D.u j * xLam D s j) i
def grad (i : Fin 2048) : ℝ := Q D s i - D.b i
def zeta' (i : Fin 2048) : ℝ := s.zeta i - alpha s * grad D s i
def eta' (i : Fin 2048) : ℝ := s.eta i + tau s * (zeta' D s i - s.eta i)
def negE (j : Fin 8192) : EReal := slope D (col D (eta' D s)) j
/-- The quantity that the test holds against the tolerance. -/
def gap : EReal :=
  (((∑ i, Q D s i * Q D s i - ∑ i, D.b i * D.b i) * (1 / 2) / s.M : ℝ) : EReal) +
    Ideal.div (∑ j, (lae (negE D s j) - lae (negL D s j))) ((10 : ℝ) : EReal)
/-- The test: is the step accepted? -/
def ok : Prop := gap D s ≤ ((eps : ℝ) : EReal)

/-- One step. -/
def step : St where
  M := max (if ok D s then (if s.last then s.M * (1 / 2) else s.M) else s.M * 2) eps
  beta := if ok D s then beta' s else s.beta
  last := ok D s
  eta := fun i => if ok D s then eta' D s i else s.eta i
  zeta := fun i => if ok D s then zeta' D s i else s.zeta i
  x := fun j => if ok D s then s.x j + tau s * (xLam D s j - s.x j) else s.x j

/-- The state before the first step. -/
def init : St where
  M := 10
  beta := 0
  last := False
  eta := fun _ => 0
  zeta := fun _ => 0
  x := fun j => sg (-(D.c j) * ((10 * D.u j : ℝ) : EReal))

/-! ## `M` stays positive, `beta` stays nonnegative -/

/-- What keeps every division away from zero. -/
def Good : Prop := 0 < s.M ∧ 0 ≤ s.beta

theorem eps_pos : 0 < eps := by unfold eps; norm_num

theorem good_init : Good (init D) := ⟨by simp [init], by simp [init]⟩

variable {s}

theorem alpha_pos (h : Good s) : 0 < alpha s := by
  have h1 : (0 : ℝ) < (1 / 2) / s.M := div_pos (by norm_num) h.1
  exact add_pos_of_pos_of_nonneg h1 (Real.sqrt_nonneg _)

theorem beta'_pos (h : Good s) : 0 < beta' s := add_pos_of_nonneg_of_pos h.2 (alpha_pos h)

theorem root_nonneg (h : Good s) : 0 ≤ ((1 / 4) / s.M + s.beta) / s.M :=
  div_nonneg (add_nonneg (div_nonneg (by norm_num) h.1.le) h.2) h.1.le

theorem good_step (h : Good s) : Good (step D s) := by
  refine ⟨lt_of_lt_of_le eps_pos (le_max_right _ _), ?_⟩
  show 0 ≤ if ok D s then beta' s else s.beta
  split
  · exact (beta'_pos h).le
  · exact h.2

variable (s)

theorem good_iter (k : ℕ) : Good ((step D)^[k] (init D)) := by
  induction k with
  | zero => exact good_init D
  | succ k ih => rw [Function.iterate_succ_apply']; exact good_step D ih

/-! ## The linear maps -/

/-- `Aᵀ` of the point between `eta` and `zeta`, from `Aᵀ eta` and `Aᵀ zeta`. -/
theorem col_mix (v w : Fin 2048 → ℝ) (t : ℝ) (j : Fin 8192) :
    col D (fun i => v i + t * (w i - v i)) j = col D v j + t * (col D w j - col D v j) := by
  unfold col
  rw [← Finset.sum_sub_distrib, Finset.mul_sum, ← Finset.sum_add_distrib]
  exact Finset.sum_congr rfl fun i _ => by ring

theorem col_sub (v g : Fin 2048 → ℝ) (t : ℝ) (j : Fin 8192) :
    col D (fun i => v i - t * g i) j = col D v j - t * col D g j := by
  unfold col
  rw [Finset.mul_sum, ← Finset.sum_sub_distrib]
  exact Finset.sum_congr rfl fun i _ => by ring

theorem col_zero (j : Fin 8192) : col D (fun _ => 0) j = 0 := by simp [col]

/-! ## Real numbers among the extended ones -/

theorem coe_sum {ι : Type} [Fintype ι] (f : ι → ℝ) : ((∑ i, f i : ℝ) : EReal) = ∑ i, (f i : EReal) :=
  map_sum (⟨⟨fun x : ℝ => (x : EReal), EReal.coe_zero⟩, EReal.coe_add⟩ : ℝ →+ EReal) f Finset.univ

theorem div_real (x : ℝ) {y : ℝ} (h : y ≠ 0) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((Real.sqrt x : ℝ) : EReal) := by
  rw [Ideal.sqrt_coe, if_neg (not_lt.mpr h)]

theorem max_real (x y : ℝ) : max (x : EReal) (y : EReal) = ((max x y : ℝ) : EReal) :=
  (EReal.coe_strictMono.monotone.map_max).symm

theorem zero_sub_ext (x : EReal) : 0 - x = -x := by rw [sub_eq_add_neg, zero_add]

theorem sub_self_real (x : ℝ) : (x : EReal) - (x : EReal) = 0 := by rw [← EReal.coe_sub, sub_self, EReal.coe_zero]

/-- The sigmoid of an extended real is a real number. -/
theorem logistic_eq (y : EReal) : Ideal.logistic y = ((sg y : ℝ) : EReal) := by
  unfold sg
  induction y using EReal.rec with
  | bot => simp
  | coe r => rw [Ideal.logistic_coe, EReal.toReal_coe]
  | top => rw [Ideal.logistic_top, EReal.toReal_one, EReal.coe_one]

/-- The absolute value does not see the sign. -/
theorem max_neg (y : EReal) : max (0 - y) (-(0 - y)) = max y (-y) := by
  rw [zero_sub_ext, neg_neg, max_comm]

end Cert.Solver
-- ==== Proof.Product.lean ====
/- The kernel's two matrix products at an index. `A w` is a sum of sixteen blocks of 512 columns, and
   `Aᵀ g` one of eight blocks of 256 rows. Each block multiplies two rows, the vector and what rounding
   left of it; over the extended reals nothing is left, so the second row is zero. A further product
   with the narrow remainder of the matrix is added, which is zero likewise. -/
module

public import proofs.«01_k».proof.Proof.Gen.KernelIdeal.Skeleton
public import proofs.«01_k».proof.Proof.Step

@[expose] public section

set_option maxRecDepth 16384

noncomputable section

namespace Cert.KernelIdeal.Gen

open Idealize.ShloMosaic Cert.Solver
open scoped BigOperators

/-! ## A sum in blocks -/

/-- The part of `∑ j, f j` from `o` on, `m` terms long. -/
def part {n : ℕ} (f : Fin n → EReal) (o m : ℕ) (h : o + m ≤ n) : EReal :=
  ∑ k : Fin m, f ⟨o + k.val, lt_of_lt_of_le (Nat.add_lt_add_left k.isLt o) h⟩

/-- Two parts that follow one another are one part. -/
theorem part_add {n : ℕ} (f : Fin n → EReal) (o m m' : ℕ) (h : o + m ≤ n) (h' : o + m + m' ≤ n) :
    part f o m h + part f (o + m) m' h' = part f o (m + m') (by omega) := by
  unfold part
  rw [Fin.sum_univ_add]
  congr 1
  refine Finset.sum_congr rfl fun k _ => congrArg f (Fin.ext ?_)
  show o + m + k.val = o + (m + k.val)
  omega

/-- The part from zero on with all the terms is the sum. -/
theorem part_all {n : ℕ} (f : Fin n → EReal) : part f 0 n (by omega) = ∑ j, f j := by
  unfold part
  exact Finset.sum_congr rfl fun k _ => congrArg f (Fin.ext (Nat.zero_add _))

/-- One more part joins those before it. -/
theorem part_snoc {n : ℕ} (f : Fin n → EReal) (m m' : ℕ) (h : 0 + m ≤ n) (h' : m + m' ≤ n) :
    part f 0 m h + part f m m' h' = part f 0 (m + m') (by omega) := by
  have e := part_add f 0 m m' h (by omega)
  simp only [Nat.zero_add] at e
  exact e

variable (D : Data)

/-- The terms of `(A w) i`. -/
def rowT (w : Fin 8192 → ℝ) (i : Fin 2048) (j : Fin 8192) : EReal := (w j : EReal) * (D.A i j : EReal)
/-- The terms of `(Aᵀ g) j`. -/
def colT (g : Fin 2048 → ℝ) (j : Fin 8192) (i : Fin 2048) : EReal := (g i : EReal) * (D.A i j : EReal)

theorem sum_rowT (w : Fin 8192 → ℝ) (i : Fin 2048) : ∑ j, rowT D w i j = ((row D w i : ℝ) : EReal) := by
  unfold rowT row
  rw [coe_sum]
  exact Finset.sum_congr rfl fun j _ => (EReal.coe_mul _ _).symm

theorem sum_colT (g : Fin 2048 → ℝ) (j : Fin 8192) : ∑ i, colT D g j i = ((col D g j : ℝ) : EReal) := by
  unfold colT col
  rw [coe_sum]
  exact Finset.sum_congr rfl fun i _ => (EReal.coe_mul _ _).symm

/-! ## The blocks of the matrix that the kernel loads -/

/-- Columns `o` to `o + 511`, transposed. -/
def TBlk (o : ℕ) (ho : o + 512 ≤ 8192) (B : Vec Ideal S512x2048 .bf16) : Prop :=
  ∀ (k : Fin 512) (i : Fin 2048), B (ix2 k i) = (D.A i ⟨o + k.val, lt_of_lt_of_le (Nat.add_lt_add_left k.isLt o) ho⟩ : EReal)
/-- Columns `o` to `o + 511`. -/
def CBlk (o : ℕ) (ho : o + 512 ≤ 8192) (B : Vec Ideal S2048x512 .bf16) : Prop :=
  ∀ (i : Fin 2048) (k : Fin 512), B (ix2 i k) = (D.A i ⟨o + k.val, lt_of_lt_of_le (Nat.add_lt_add_left k.isLt o) ho⟩ : EReal)
/-- Rows `o` to `o + 255`. -/
def RBlk (o : ℕ) (ho : o + 256 ≤ 2048) (B : Vec Ideal S256x8192 .bf16) : Prop :=
  ∀ (k : Fin 256) (j : Fin 8192), B (ix2 k j) = (D.A ⟨o + k.val, lt_of_lt_of_le (Nat.add_lt_add_left k.isLt o) ho⟩ j : EReal)

/-- The two rows: the vector, and zero. -/
def Rows (V : FVec Ideal S2x8192 .bf16) (w : Fin 8192 → ℝ) : Prop :=
  (∀ j, V (ix2 0 j) = (w j : EReal)) ∧ ∀ j, V (ix2 1 j) = 0
def Rows' (V : FVec Ideal S2x2048 .bf16) (g : Fin 2048 → ℝ) : Prop :=
  (∀ i, V (ix2 0 i) = (g i : EReal)) ∧ ∀ i, V (ix2 1 i) = 0

variable {D}

/-! ## `A w` -/

variable {w : Fin 8192 → ℝ} {V : FVec Ideal S2x8192 .bf16}

theorem pay11_at {v110 : FVec Ideal S1x2048 .f32} {v111 : FVec Ideal S2x512 .bf16} {B0 B1 B2 B3 : Vec Ideal S512x2048 .bf16}
    {B4 B5 : Vec Ideal S2048x512 .bf16} (hV : Rows V w)
    (h0 : ∀ k : Fin 512, v111 (ix2 0 k) = (w ⟨1024 + k.val, by omega⟩ : EReal)) (h1 : ∀ k, v111 (ix2 1 k) = 0)
    (b0 : TBlk D 1024 (by omega) B0) (b1 : TBlk D 1536 (by omega) B1) (b2 : TBlk D 2048 (by omega) B2)
    (b3 : TBlk D 2560 (by omega) B3) (b4 : CBlk D 3072 (by omega) B4) (b5 : CBlk D 3584 (by omega) B5) (i : Fin 2048) :
    k0_pay11 V v110 v111 B0 B1 B2 B3 B4 B5 (ix2 0 i) =
      v110 (ix2 0 i) + part (rowT D w i) 1024 512 (by omega) + part (rowT D w i) 1536 512 (by omega) +
        part (rowT D w i) 2048 512 (by omega) + part (rowT D w i) 2560 512 (by omega) +
        part (rowT D w i) 3072 512 (by omega) + part (rowT D w i) 3584 512 (by omega) := by
  obtain ⟨hv, hz⟩ := hV
  unfold TBlk at b0 b1 b2 b3
  unfold CBlk at b4 b5
  pointwise [k0_pay11]
  simp only [hv, hz, h0, h1, b0, b1, b2, b3, b4, b5, zero_mul, Finset.sum_const_zero, add_zero]
  rfl

theorem pay12_at {v154 : FVec Ideal S1x2048 .f32} {B0 B1 B2 B3 B4 : Vec Ideal S2048x512 .bf16} (hV : Rows V w)
    (b0 : CBlk D 4096 (by omega) B0) (b1 : CBlk D 4608 (by omega) B1) (b2 : CBlk D 5120 (by omega) B2)
    (b3 : CBlk D 5632 (by omega) B3) (b4 : CBlk D 6144 (by omega) B4) (i : Fin 2048) :
    k0_pay12 V v154 B0 B1 B2 B3 B4 (ix2 0 i) =
      v154 (ix2 0 i) + part (rowT D w i) 4096 512 (by omega) + part (rowT D w i) 4608 512 (by omega) +
        part (rowT D w i) 5120 512 (by omega) + part (rowT D w i) 5632 512 (by omega) +
        part (rowT D w i) 6144 512 (by omega) := by
  obtain ⟨hv, hz⟩ := hV
  unfold CBlk at b0 b1 b2 b3 b4
  pointwise [k0_pay12]
  simp only [hv, hz, b0, b1, b2, b3, b4, zero_mul, Finset.sum_const_zero, add_zero]
  rfl

theorem pay15_at {v194 : FVec Ideal S1x2048 .f32} {v195 : FVec Ideal S2x512 .bf16} {B0 B1 B2 : Vec Ideal S2048x512 .bf16}
    (hV : Rows V w) (h0 : ∀ k : Fin 512, v195 (ix2 0 k) = (w ⟨6656 + k.val, by omega⟩ : EReal)) (h1 : ∀ k, v195 (ix2 1 k) = 0)
    (b0 : CBlk D 6656 (by omega) B0) (b1 : CBlk D 7168 (by omega) B1) (b2 : CBlk D 7680 (by omega) B2) (i : Fin 2048) :
    k0_pay15 V v194 v195 B0 B1 B2 (ix2 0 i) =
      v194 (ix2 0 i) + part (rowT D w i) 6656 512 (by omega) + part (rowT D w i) 7168 512 (by omega) +
        part (rowT D w i) 7680 512 (by omega) := by
  obtain ⟨hv, hz⟩ := hV
  unfold CBlk at b0 b1 b2
  pointwise [k0_pay15]
  simp only [hv, hz, h0, h1, b0, b1, b2, zero_mul, Finset.sum_const_zero, add_zero]
  rfl

/-- The slices of the two rows that go into the next two payloads. -/
theorem pay13_at (hV : Rows V w) (k : Fin 512) :
    k0_pay13 V (ix2 0 k) = (w ⟨6656 + k.val, by omega⟩ : EReal) ∧ k0_pay13 V (ix2 1 k) = 0 := by
  obtain ⟨hv, hz⟩ := hV
  constructor
  · pointwise [k0_pay13]
    exact hv _
  · pointwise [k0_pay13]
    exact hz _

theorem pay14_at {o : ℕ} {ho : o + 512 ≤ 8192} {B : Vec Ideal S2048x512 .bf16} (b : CBlk D o ho B) : CBlk D o ho (k0_pay14 B) := by
  intro i k
  pointwise [k0_pay14]
  exact b i k

section Vector
variable {v1 v2 v4 p r : FVec Ideal S1x8192 .f32} {m b : FVec Ideal S1x1 .f32}

theorem pay7_rows (hw : ∀ j, k0_pay6 v1 v2 v4 m b p r (ix2 0 j) = (w j : EReal)) : Rows (k0_pay7 v1 v2 v4 m b p r) w := by
  constructor
  · intro j
    pointwise [k0_pay7]
    simp [hw]
  · intro j
    pointwise [k0_pay7]
    simp [hw, sub_self_real]

theorem pay9_at {B0 B1 : Vec Ideal S512x2048 .bf16} (hV : Rows (k0_pay7 v1 v2 v4 m b p r) w)
    (b0 : TBlk D 0 (by omega) B0) (b1 : TBlk D 512 (by omega) B1) (i : Fin 2048) :
    k0_pay9 v1 v2 v4 m b p r B0 B1 (ix2 0 i) =
      part (rowT D w i) 0 512 (by omega) + part (rowT D w i) 512 512 (by omega) := by
  obtain ⟨hv, hz⟩ := hV
  unfold TBlk at b0 b1
  pointwise [k0_pay9]
  simp only [hv, hz, b0, b1, zero_mul, Finset.sum_const_zero, add_zero]
  unfold part rowT
  simp only [Nat.zero_add]

theorem pay10_at (hV : Rows (k0_pay7 v1 v2 v4 m b p r) w) (k : Fin 512) :
    k0_pay10 v1 v2 v4 m b p r (ix2 0 k) = (w ⟨1024 + k.val, by omega⟩ : EReal) ∧ k0_pay10 v1 v2 v4 m b p r (ix2 1 k) = 0 := by
  obtain ⟨hv, hz⟩ := hV
  constructor
  · pointwise [k0_pay10]
    exact hv _
  · pointwise [k0_pay10]
    exact hz _
end Vector

/-! The narrow remainder of the matrix is zero, and so are the products with it. -/

variable {L : FVec Ideal S1x8192 .fp8e4m3}

/-- A block of zeros. -/
def ZBlk (B : Vec Ideal S2048x512 .fp8e4m3) : Prop := ∀ i k, B (ix2 i k) = 0
def ZBlk' (B : Vec Ideal S256x8192 .fp8e4m3) : Prop := ∀ k j, B (ix2 k j) = 0

theorem pay16_at {B0 B1 B2 B3 : Vec Ideal S2048x512 .fp8e4m3} (b0 : ZBlk B0) (b1 : ZBlk B1) (b2 : ZBlk B2) (b3 : ZBlk B3)
    (i : Fin 2048) : k0_pay16 L B0 B1 B2 B3 (ix2 0 i) = 0 := by
  unfold ZBlk at b0 b1 b2 b3
  pointwise [k0_pay16]
  simp only [b0, b1, b2, b3, mul_zero, Finset.sum_const_zero, add_zero]

theorem pay18_at {t : FVec Ideal S1x2048 .f32} {v : FVec Ideal S1x512 .fp8e4m3} {B0 B1 B2 B3 B4 B5 B6 : Vec Ideal S2048x512 .fp8e4m3}
    (i : Fin 2048) (ht : t (ix2 0 i) = 0) (b0 : ZBlk B0) (b1 : ZBlk B1) (b2 : ZBlk B2) (b3 : ZBlk B3) (b4 : ZBlk B4) (b5 : ZBlk B5)
    (b6 : ZBlk B6) : k0_pay18 L t v B0 B1 B2 B3 B4 B5 B6 (ix2 0 i) = 0 := by
  unfold ZBlk at b0 b1 b2 b3 b4 b5 b6
  pointwise [k0_pay18]
  simp only [ht, b0, b1, b2, b3, b4, b5, b6, mul_zero, Finset.sum_const_zero, add_zero]

theorem pay20_at {B : Vec Ideal S2048x512 .fp8e4m3} (b : ZBlk B) : ZBlk (k0_pay20 B) := by
  intro i k
  pointwise [k0_pay20]
  exact b i k

/-- The product with the matrix, once the remainder has added nothing. -/
theorem pay21_at {s t : FVec Ideal S1x2048 .f32} {v : FVec Ideal S1x512 .fp8e4m3} {B0 B1 B2 B3 B4 : Vec Ideal S2048x512 .fp8e4m3}
    (i : Fin 2048) (ht : t (ix2 0 i) = 0) (b0 : ZBlk B0) (b1 : ZBlk B1) (b2 : ZBlk B2) (b3 : ZBlk B3) (b4 : ZBlk B4) :
    k0_pay21 L s t v B0 B1 B2 B3 B4 (ix2 0 i) = s (ix2 0 i) := by
  unfold ZBlk at b0 b1 b2 b3 b4
  pointwise [k0_pay21]
  simp only [ht, b0, b1, b2, b3, b4, mul_zero, zero_mul, Finset.sum_const_zero, add_zero]

/-- The sixteen parts are the whole row. -/
theorem row_parts (i : Fin 2048) :
    part (rowT D w i) 0 512 (by omega) + part (rowT D w i) 512 512 (by omega) + part (rowT D w i) 1024 512 (by omega) +
      part (rowT D w i) 1536 512 (by omega) + part (rowT D w i) 2048 512 (by omega) + part (rowT D w i) 2560 512 (by omega) +
      part (rowT D w i) 3072 512 (by omega) + part (rowT D w i) 3584 512 (by omega) + part (rowT D w i) 4096 512 (by omega) +
      part (rowT D w i) 4608 512 (by omega) + part (rowT D w i) 5120 512 (by omega) + part (rowT D w i) 5632 512 (by omega) +
      part (rowT D w i) 6144 512 (by omega) + part (rowT D w i) 6656 512 (by omega) + part (rowT D w i) 7168 512 (by omega) +
      part (rowT D w i) 7680 512 (by omega) = ((row D w i : ℝ) : EReal) := by
  rw [← sum_rowT, ← part_all]
  rw [part_snoc _ 512 512, part_snoc _ (512 + 512) 512, part_snoc _ (512 + 512 + 512) 512]
  simp only [Nat.reduceAdd]
  rw [part_snoc _ 2048 512, part_snoc _ (2048 + 512) 512, part_snoc _ (2048 + 512 + 512) 512, part_snoc _ (2048 + 512 + 512 + 512) 512]
  simp only [Nat.reduceAdd]
  rw [part_snoc _ 4096 512, part_snoc _ (4096 + 512) 512, part_snoc _ (4096 + 512 + 512) 512, part_snoc _ (4096 + 512 + 512 + 512) 512]
  simp only [Nat.reduceAdd]
  rw [part_snoc _ 6144 512, part_snoc _ (6144 + 512) 512, part_snoc _ (6144 + 512 + 512) 512, part_snoc _ (6144 + 512 + 512 + 512) 512]

/-! ## `Aᵀ g` -/

variable {g : Fin 2048 → ℝ} {G : FVec Ideal S2x2048 .bf16} {H : FVec Ideal S1x2048 .fp8e4m3}

theorem pay28_at {v : FVec Ideal S2x256 .bf16} {B0 B1 : Vec Ideal S256x8192 .bf16} {Z0 Z1 : Vec Ideal S256x8192 .fp8e4m3}
    (hG : Rows' G g) (h0 : ∀ k : Fin 256, v (ix2 0 k) = (g ⟨0 + k.val, by omega⟩ : EReal)) (h1 : ∀ k, v (ix2 1 k) = 0)
    (b0 : RBlk D 0 (by omega) B0) (b1 : RBlk D 256 (by omega) B1) (z0 : ZBlk' Z0) (z1 : ZBlk' Z1) (j : Fin 8192) :
    k0_pay28 G H v B0 Z0 B1 Z1 (ix2 0 j) = part (colT D g j) 0 256 (by omega) + part (colT D g j) 256 256 (by omega) := by
  obtain ⟨hv, hz⟩ := hG
  unfold RBlk at b0 b1
  unfold ZBlk' at z0 z1
  pointwise [k0_pay28]
  simp only [hv, hz, h0, h1, b0, b1, z0, z1, zero_mul, mul_zero, Finset.sum_const_zero, add_zero]
  rfl

theorem pay29_at {B0 : Vec Ideal S256x8192 .bf16} {Z0 : Vec Ideal S256x8192 .fp8e4m3}
    (hG : Rows' G g) (b0 : RBlk D 512 (by omega) B0) (z0 : ZBlk' Z0) (j : Fin 8192) :
    k0_pay29 G H B0 Z0 (ix2 0 j) = part (colT D g j) 512 256 (by omega) := by
  obtain ⟨hv, hz⟩ := hG
  unfold RBlk at b0
  unfold ZBlk' at z0
  pointwise [k0_pay29]
  simp only [hv, hz, b0, z0, zero_mul, mul_zero, Finset.sum_const_zero, add_zero]
  rfl

theorem pay30_at {s t : FVec Ideal S1x8192 .f32} {B0 B1 : Vec Ideal S256x8192 .bf16} {Z0 Z1 : Vec Ideal S256x8192 .fp8e4m3}
    (hG : Rows' G g) (b0 : RBlk D 768 (by omega) B0) (b1 : RBlk D 1024 (by omega) B1) (z0 : ZBlk' Z0) (z1 : ZBlk' Z1)
    (j : Fin 8192) :
    k0_pay30 G H s t B0 Z0 B1 Z1 (ix2 0 j) =
      s (ix2 0 j) + t (ix2 0 j) + part (colT D g j) 768 256 (by omega) + part (colT D g j) 1024 256 (by omega) := by
  obtain ⟨hv, hz⟩ := hG
  unfold RBlk at b0 b1
  unfold ZBlk' at z0 z1
  pointwise [k0_pay30]
  simp only [hv, hz, b0, b1, z0, z1, zero_mul, mul_zero, Finset.sum_const_zero, add_zero]
  rfl

theorem pay31_at {B : Vec Ideal S256x8192 .bf16} (hG : Rows' G g) (b : RBlk D 1280 (by omega) B) (j : Fin 8192) :
    k0_pay31 G B (ix2 0 j) = part (colT D g j) 1280 256 (by omega) ∧ k0_pay31 G B (ix2 1 j) = 0 := by
  obtain ⟨hv, hz⟩ := hG
  unfold RBlk at b
  constructor
  · pointwise [k0_pay31]
    simp only [hv, b]
    rfl
  · pointwise [k0_pay31]
    simp only [hz, b, zero_mul, Finset.sum_const_zero]

theorem pay32_at {Z : Vec Ideal S256x8192 .fp8e4m3} (z : ZBlk' Z) (j : Fin 8192) : k0_pay32 H Z (ix2 0 j) = 0 := by
  unfold ZBlk' at z
  pointwise [k0_pay32]
  simp only [z, mul_zero, Finset.sum_const_zero]

theorem pay33_at {B : Vec Ideal S256x8192 .bf16} (hG : Rows' G g) (b : RBlk D 1280 (by omega) B) (j : Fin 8192) :
    k0_pay33 G B (ix2 0 j) = part (colT D g j) 1280 256 (by omega) := by
  rw [← (pay31_at hG b j).1]
  pointwise [k0_pay33]

/-- The carried `Aᵀ zeta`, less the step along `Aᵀ g`. -/
theorem pay34_at {a : FVec Ideal S1x1 .f32} {q s f y : FVec Ideal S1x8192 .f32} {e : FVec Ideal S2x8192 .f32}
    {B0 B1 : Vec Ideal S256x8192 .bf16} {Z0 Z1 : Vec Ideal S256x8192 .fp8e4m3}
    (hG : Rows' G g) (b0 : RBlk D 1536 (by omega) B0) (b1 : RBlk D 1792 (by omega) B1) (z0 : ZBlk' Z0) (z1 : ZBlk' Z1)
    (j : Fin 8192) (he : e (ix2 1 j) = 0) (hf : f (ix2 0 j) = 0) :
    k0_pay34 q a G H s e f y B0 Z0 B1 Z1 (ix2 0 j) =
      q (ix2 0 j) - a (ix2 0 0) * (s (ix2 0 j) + y (ix2 0 j) + part (colT D g j) 1536 256 (by omega) +
        part (colT D g j) 1792 256 (by omega)) := by
  obtain ⟨hv, hz⟩ := hG
  unfold RBlk at b0 b1
  unfold ZBlk' at z0 z1
  pointwise [k0_pay34]
  simp only [hv, hz, he, hf, b0, b1, z0, z1, zero_mul, mul_zero, Finset.sum_const_zero, add_zero]
  rfl

/-- The eight parts are the whole column. -/
theorem col_parts (j : Fin 8192) :
    part (colT D g j) 0 256 (by omega) + part (colT D g j) 256 256 (by omega) + part (colT D g j) 512 256 (by omega) +
      part (colT D g j) 768 256 (by omega) + part (colT D g j) 1024 256 (by omega) + part (colT D g j) 1280 256 (by omega) +
      part (colT D g j) 1536 256 (by omega) + part (colT D g j) 1792 256 (by omega) = ((col D g j : ℝ) : EReal) := by
  rw [← sum_colT, ← part_all]
  rw [part_snoc _ 256 256, part_snoc _ (256 + 256) 256, part_snoc _ (256 + 256 + 256) 256]
  simp only [Nat.reduceAdd]
  rw [part_snoc _ 1024 256, part_snoc _ (1024 + 256) 256, part_snoc _ (1024 + 256 + 256) 256, part_snoc _ (1024 + 256 + 256 + 256) 256]

end Cert.KernelIdeal.Gen
-- ==== Proof.Parts.lean ====
/- The kernel's element-by-element operations at an index, each in the words of the step. -/
module

public import proofs.«01_k».proof.Proof.Product
public import proofs.«01_k».proof.Proof.Gen.KernelIdeal.Loops

@[expose] public section

set_option maxRecDepth 16384

noncomputable section

namespace Cert.KernelIdeal.Gen

open Idealize.ShloMosaic Cert.Solver
open scoped BigOperators Classical

/-! ## Truth values -/

/-- A truth value as a float: one or zero. -/
def flag (P : Prop) : EReal := if P then 1 else 0
/-- A truth value as a bit. -/
def bit (P : Prop) : BitVec 1 := if P then 1#1 else 0#1

theorem ofBool_eq (P : Prop) [Decidable P] : BitVec.ofBool (decide P) = bit P := by
  unfold bit; by_cases h : P <;> simp [h]

theorem select_bit {α : Type} (P : Prop) (a b : α) : Scalar.select (bit P) a b = if P then a else b := by
  unfold Scalar.select bit; by_cases h : P <;> simp [h]

theorem flag_of_bit (P : Prop) : (FloatOps.sitofp FTy.f32 (BitVec.setWidth 32 (bit P)) : Ideal .f32) = flag P := by
  show ((((bit P).setWidth 32).toInt : ℝ) : EReal) = flag P
  unfold bit flag
  by_cases h : P <;> simp [h]

theorem half_lt_flag (P : Prop) : ((1 / 2 : ℝ) : EReal) < flag P ↔ P := by
  unfold flag
  by_cases h : P
  · simp only [h, if_true, iff_true]
    rw [← EReal.coe_one]
    exact EReal.coe_lt_coe_iff.mpr (by norm_num)
  · simp only [h, if_false, iff_false, not_lt]
    rw [← EReal.coe_zero]
    exact EReal.coe_le_coe_iff.mpr (by norm_num)

/-! ## The scalars -/

section Scalars
variable {s : St} {m b : FVec Ideal S1x1 .f32}

theorem pay1_at (g : Good s) (hm : m (ix2 0 0) = (s.M : EReal)) (hb : b (ix2 0 0) = (s.beta : EReal)) :
    k0_pay1 m b (ix2 0 0) = (alpha s : EReal) := by
  have hM : s.M ≠ 0 := g.1.ne'
  pointwise [k0_pay1]
  rw [hm, hb, bits_half, bits_quarter, div_real _ hM, div_real _ hM, ← EReal.coe_add, div_real _ hM,
    sqrt_real (root_nonneg g), ← EReal.coe_add]
  rfl

theorem pay2_at (g : Good s) (hm : m (ix2 0 0) = (s.M : EReal)) (hb : b (ix2 0 0) = (s.beta : EReal)) :
    k0_pay2 m b (ix2 0 0) = (beta' s : EReal) := by
  pointwise [k0_pay2]
  rw [pay1_at g hm hb, hb, ← EReal.coe_add]
  rfl

theorem pay3_at (g : Good s) (hm : m (ix2 0 0) = (s.M : EReal)) (hb : b (ix2 0 0) = (s.beta : EReal)) :
    k0_pay3 m b (ix2 0 0) = (tau s : EReal) := by
  pointwise [k0_pay3]
  rw [pay1_at g hm hb, pay2_at g hm hb, div_real _ (beta'_pos g).ne']
  rfl
end Scalars

/-! ## The slope and the sigmoid -/

section Slope
variable {D : Data} {s : St} {m b : FVec Ideal S1x1 .f32} {v1 v2 v4 p r : FVec Ideal S1x8192 .f32}

theorem pay4_at (g : Good s) (hm : m (ix2 0 0) = (s.M : EReal)) (hb : b (ix2 0 0) = (s.beta : EReal)) (j : Fin 8192)
    (h1 : v1 (ix2 0 j) = D.c j) (h4 : v4 (ix2 0 j) = ((10 * D.u j : ℝ) : EReal))
    (hp : p (ix2 0 j) = (col D s.eta j : EReal)) (hr : r (ix2 0 j) = (col D s.zeta j : EReal)) :
    k0_pay4 v1 v4 m b p r (ix2 0 j) = negL D s j := by
  pointwise [k0_pay4]
  rw [pay3_at g hm hb, h1, h4, hp, hr, ← EReal.coe_sub, ← EReal.coe_mul, ← EReal.coe_add, zero_sub_ext, ← col_mix]
  rfl

theorem pay5_at (g : Good s) (hm : m (ix2 0 0) = (s.M : EReal)) (hb : b (ix2 0 0) = (s.beta : EReal)) (j : Fin 8192)
    (h1 : v1 (ix2 0 j) = D.c j) (h4 : v4 (ix2 0 j) = ((10 * D.u j : ℝ) : EReal))
    (hp : p (ix2 0 j) = (col D s.eta j : EReal)) (hr : r (ix2 0 j) = (col D s.zeta j : EReal)) :
    k0_pay5 v1 v4 m b p r (ix2 0 j) = (xLam D s j : EReal) := by
  pointwise [k0_pay5]
  rw [pay4_at g hm hb j h1 h4 hp hr, zero_sub_ext]
  exact logistic_eq _

theorem pay6_at (g : Good s) (hm : m (ix2 0 0) = (s.M : EReal)) (hb : b (ix2 0 0) = (s.beta : EReal)) (j : Fin 8192)
    (h1 : v1 (ix2 0 j) = D.c j) (h2 : v2 (ix2 0 j) = (D.u j : EReal)) (h4 : v4 (ix2 0 j) = ((10 * D.u j : ℝ) : EReal))
    (hp : p (ix2 0 j) = (col D s.eta j : EReal)) (hr : r (ix2 0 j) = (col D s.zeta j : EReal)) :
    k0_pay6 v1 v2 v4 m b p r (ix2 0 j) = ((D.u j * xLam D s j : ℝ) : EReal) := by
  pointwise [k0_pay6]
  rw [pay5_at g hm hb j h1 h4 hp hr, h2, ← EReal.coe_mul]

/-- The primal point before the first step. -/
theorem pay55_at (j : Fin 8192) (h1 : v1 (ix2 0 j) = D.c j) (h4 : v4 (ix2 0 j) = ((10 * D.u j : ℝ) : EReal)) :
    k0_pay55 v1 v4 (ix2 0 j) = ((init D).x j : EReal) := by
  pointwise [k0_pay55]
  rw [h1, h4, zero_sub_ext, zero_sub_ext]
  exact logistic_eq _

theorem pay40_at (j : Fin 8192) (h2 : v2 (ix2 0 j) = (D.u j : EReal)) :
    k0_pay40 (F := Ideal) v2 (ix2 0 j) = ((10 * D.u j : ℝ) : EReal) := by
  pointwise [k0_pay40]
  rw [h2, bits_ten, ← EReal.coe_mul]

theorem pay41_at {v0 : FVec Ideal S1x2048 .f32} (h0 : ∀ i, v0 (ix2 0 i) = (D.b i : EReal)) :
    k0_pay41 (F := Ideal) v0 (ix2 0 0) = ((∑ i, D.b i * D.b i : ℝ) : EReal) := by
  pointwise [k0_pay41]
  simp only [h0, ← EReal.coe_mul, ← coe_sum]
end Slope

/-! ## The test -/

section Test
variable {D : Data} {s : St} {v7 m l : FVec Ideal S1x1 .f32} {v4 y e : FVec Ideal S1x8192 .f32} {q : FVec Ideal S1x2048 .f32}

theorem pay37_at (g : Good s) (hm : m (ix2 0 0) = (s.M : EReal)) (h4 : ∀ j, v4 (ix2 0 j) = ((10 * D.u j : ℝ) : EReal))
    (h7 : v7 (ix2 0 0) = ((∑ i, D.b i * D.b i : ℝ) : EReal)) (hy : ∀ j, y (ix2 0 j) = negL D s j)
    (hq : ∀ i, q (ix2 0 i) = (Q D s i : EReal)) (he : ∀ j, e (ix2 0 j) = D.c j - (col D (eta' D s) j : EReal)) :
    k0_pay37 v4 v7 m y q e trip_k0_t1.sl.cst_186 (ix2 0 0) = flag (ok D s) := by
  pointwise [k0_pay37, trip_k0_t1.sl.cst_186]
  have hE : ∀ j, (0 - e (ix2 0 j)) * v4 (ix2 0 j) = negE D s j := fun j => by rw [he, h4, zero_sub_ext]; rfl
  have hA : ∀ x : EReal, (max x 0 + Ideal.log1p (Ideal.exp (0 - FloatOps.absf (F := Ideal) (φ := .f32) x)) : EReal) = lae x := fun x => by
    show max x 0 + Ideal.log1p (Ideal.exp (0 - max x (-x))) = _
    rw [zero_sub_ext, max_comm]; rfl
  simp only [hE, hy, hq, h7, hm, hA]
  rw [ofBool_eq, flag_of_bit, bits_half, bits_ten, bits_eps, div_real _ g.1.ne']
  simp only [← EReal.coe_mul, ← coe_sum, ← EReal.coe_sub]
  unfold ok gap
  rw [show (∑ i, Q D s i * Q D s i - ∑ i, D.b i * D.b i) * (1 / 2) / s.M =
    (∑ i, Q D s i * Q D s i - ∑ i, D.b i * D.b i) * (1 / 2 / s.M) by ring]

theorem pay38_at {c : Ideal .f32} {P : Prop} (h : k0_pay37 v4 v7 m y q e c (ix2 0 0) = flag P) :
    k0_pay38 v4 v7 m y q e c (ix2 0 0) = bit P := by
  pointwise [k0_pay38]
  rw [h, bits_half, ofBool_eq]
  exact congrArg bit (propext (half_lt_flag P))

theorem pay39_at {c : Ideal .f32} {P L : Prop} {M : ℝ} (hm : m (ix2 0 0) = (M : EReal)) (hl : l (ix2 0 0) = flag L)
    (h : k0_pay37 v4 v7 m y q e c (ix2 0 0) = flag P) :
    k0_pay39 v4 v7 m l y q e c (ix2 0 0) = ((if P then (if L then M * (1 / 2) else M) else M * 2 : ℝ) : EReal) := by
  pointwise [k0_pay39]
  rw [pay38_at h, select_bit, hl, hm, bits_half, bits_two, ← EReal.coe_mul, ← EReal.coe_mul]
  simp only [half_lt_flag]
  by_cases hP : P <;> by_cases hL : L <;> simp [hP, hL]

theorem pay56_at {x : ℝ} (hm : m (ix2 0 0) = (x : EReal)) :
    k0_pay56 m trip_k0_t1.sl.cst_200 (ix2 0 0) = ((max x eps : ℝ) : EReal) := by
  pointwise [k0_pay56, trip_k0_t1.sl.cst_200]
  rw [hm, bits_eps, max_real]
end Test

/-! ## Keeping the new value or the old one -/

section Keep
variable {P : Prop} {t : IVec S1x1 1} (ht : t (ix2 0 0) = bit P) {x y : ℝ}
include ht

theorem pay57_at {a b : FVec Ideal S1x1 .f32} (ha : a (ix2 0 0) = (x : EReal)) (hb : b (ix2 0 0) = (y : EReal)) :
    k0_pay57 a b t (ix2 0 0) = ((if P then y else x : ℝ) : EReal) := by
  pointwise [k0_pay57]
  rw [ht, select_bit, ha, hb]; split <;> rfl

theorem pay58_at {a b : FVec Ideal S1x2048 .f32} (i : Fin 2048) (ha : a (ix2 0 i) = (x : EReal)) (hb : b (ix2 0 i) = (y : EReal)) :
    k0_pay58 a b t (ix2 0 i) = ((if P then y else x : ℝ) : EReal) := by
  pointwise [k0_pay58]
  rw [ht, select_bit, ha, hb]; split <;> rfl

theorem pay59_at {a b : FVec Ideal S1x2048 .f32} (i : Fin 2048) (ha : a (ix2 0 i) = (x : EReal)) (hb : b (ix2 0 i) = (y : EReal)) :
    k0_pay59 a b t (ix2 0 i) = ((if P then y else x : ℝ) : EReal) := by
  pointwise [k0_pay59]
  rw [ht, select_bit, ha, hb]; split <;> rfl

theorem pay60_at {a b : FVec Ideal S1x8192 .f32} (j : Fin 8192) (ha : a (ix2 0 j) = (x : EReal)) (hb : b (ix2 0 j) = (y : EReal)) :
    k0_pay60 a b t (ix2 0 j) = ((if P then y else x : ℝ) : EReal) := by
  pointwise [k0_pay60]
  rw [ht, select_bit, ha, hb]; split <;> rfl

theorem pay61_at {a b : FVec Ideal S1x8192 .f32} (j : Fin 8192) (ha : a (ix2 0 j) = (x : EReal)) (hb : b (ix2 0 j) = (y : EReal)) :
    k0_pay61 a b t (ix2 0 j) = ((if P then y else x : ℝ) : EReal) := by
  pointwise [k0_pay61]
  rw [ht, select_bit, ha, hb]; split <;> rfl

theorem pay62_at {a b : FVec Ideal S1x8192 .f32} {w : FVec Ideal S1x1 .f32} {z : ℝ} (j : Fin 8192) (ha : a (ix2 0 j) = (x : EReal))
    (hw : w (ix2 0 0) = (z : EReal)) (hb : b (ix2 0 j) = (y : EReal)) :
    k0_pay62 a w b t (ix2 0 j) = ((if P then x + z * (y - x) else x : ℝ) : EReal) := by
  pointwise [k0_pay62]
  rw [ht, select_bit, ha, hb, hw, ← EReal.coe_sub, ← EReal.coe_mul, ← EReal.coe_add]; split <;> rfl
end Keep

end Cert.KernelIdeal.Gen
-- ==== Proof.Trip.lean ====
/- One trip of the kernel's loop is one step of the solver. The words that the trip is written in are
   taken one after the other: what each holds at an index, then the eight carried values. -/
module

public import proofs.«01_k».proof.Proof.Parts
public import Idealize.ShloMosaic.Lib.WholeRead

@[expose] public section

set_option maxRecDepth 16384

noncomputable section

namespace Cert.KernelIdeal.Gen

open Idealize.ShloMosaic Cert.Solver
open scoped BigOperators Classical

/-- The eight values that the loop carries. -/
abbrev Acc : Type :=
  FVec Ideal S1x1 .f32 × FVec Ideal S1x1 .f32 × FVec Ideal S1x1 .f32 × FVec Ideal S1x2048 .f32 × FVec Ideal S1x2048 .f32 ×
    FVec Ideal S1x8192 .f32 × FVec Ideal S1x8192 .f32 × FVec Ideal S1x8192 .f32

/-- The carried values are those of a state; beside `eta` and `zeta` their images under `Aᵀ` are carried. -/
structure Holds (D : Data) (s : St) (acc : Acc) : Prop where
  M : acc.1 (ix2 0 0) = (s.M : EReal)
  beta : acc.2.1 (ix2 0 0) = (s.beta : EReal)
  last : acc.2.2.1 (ix2 0 0) = flag s.last
  eta : ∀ i, acc.2.2.2.1 (ix2 0 i) = (s.eta i : EReal)
  zeta : ∀ i, acc.2.2.2.2.1 (ix2 0 i) = (s.zeta i : EReal)
  pEta : ∀ j, acc.2.2.2.2.2.1 (ix2 0 j) = (col D s.eta j : EReal)
  pZeta : ∀ j, acc.2.2.2.2.2.2.1 (ix2 0 j) = (col D s.zeta j : EReal)
  x : ∀ j, acc.2.2.2.2.2.2.2 (ix2 0 j) = (s.x j : EReal)

/-- What the loop reads and does not change: the vectors, the matrix, its narrow remainder, and the
    scratch buffer with the transposed columns. -/
structure Env (D : Data) (arg0 : Memref sig Kind.tc Space.vmem S2048x8192 EltTy.bf16)
    (arg1 : Memref sig Kind.tc Space.vmem S2048x8192 EltTy.fp8e4m3) (arg7 : Memref sig Kind.tc Space.vmem S3072x2048 EltTy.bf16)
    (v0 : Vec Ideal S1x2048 .f32) (v1 v2 : Vec Ideal S1x8192 .f32) (v4 : FVec Ideal S1x8192 .f32) (v7 : FVec Ideal S1x1 .f32)
    (X_arg0 : BufTy.Contents (Elt Ideal) arg0.view.ty) (X_arg1 : BufTy.Contents (Elt Ideal) arg1.view.ty)
    (X_arg7 : BufTy.Contents (Elt Ideal) arg7.view.ty) : Prop where
  b : ∀ i, v0 (ix2 0 i) = (D.b i : EReal)
  c : ∀ j, v1 (ix2 0 j) = D.c j
  u : ∀ j, v2 (ix2 0 j) = (D.u j : EReal)
  th : ∀ j, v4 (ix2 0 j) = ((10 * D.u j : ℝ) : EReal)
  btb : v7 (ix2 0 0) = ((∑ i, D.b i * D.b i : ℝ) : EReal)
  cols : ∀ (o : ℕ) (h) (ho : o + 512 ≤ 8192),
    CBlk D o ho (View.readAt (Elt Ideal) arg0.view (Rect.unit (s := S2048x8192) ![0, o] S2048x512.size h).toLoadRect X_arg0)
  rows : ∀ (o : ℕ) (h) (ho : o + 256 ≤ 2048),
    RBlk D o ho (View.readAt (Elt Ideal) arg0.view (Rect.unit (s := S2048x8192) ![o, 0] S256x8192.size h).toLoadRect X_arg0)
  zcols : ∀ (o : ℕ) (h), ZBlk (View.readAt (Elt Ideal) arg1.view (Rect.unit (s := S2048x8192) ![0, o] S2048x512.size h).toLoadRect X_arg1)
  zrows : ∀ (o : ℕ) (h), ZBlk' (View.readAt (Elt Ideal) arg1.view (Rect.unit (s := S2048x8192) ![o, 0] S256x8192.size h).toLoadRect X_arg1)
  t0 : ∀ h, TBlk D 0 (by omega) (View.readAt (Elt Ideal) arg7.view (Rect.unit (s := S3072x2048) ![0, 0] S512x2048.size h).toLoadRect X_arg7)
  t1 : ∀ h, TBlk D 512 (by omega) (View.readAt (Elt Ideal) arg7.view (Rect.unit (s := S3072x2048) ![512, 0] S512x2048.size h).toLoadRect X_arg7)
  t2 : ∀ h, TBlk D 1024 (by omega) (View.readAt (Elt Ideal) arg7.view (Rect.unit (s := S3072x2048) ![1024, 0] S512x2048.size h).toLoadRect X_arg7)
  t3 : ∀ h, TBlk D 1536 (by omega) (View.readAt (Elt Ideal) arg7.view (Rect.unit (s := S3072x2048) ![1536, 0] S512x2048.size h).toLoadRect X_arg7)
  t4 : ∀ h, TBlk D 2048 (by omega) (View.readAt (Elt Ideal) arg7.view (Rect.unit (s := S3072x2048) ![2048, 0] S512x2048.size h).toLoadRect X_arg7)
  t5 : ∀ h, TBlk D 2560 (by omega) (View.readAt (Elt Ideal) arg7.view (Rect.unit (s := S3072x2048) ![2560, 0] S512x2048.size h).toLoadRect X_arg7)

/-! ## A whole memref, block by block -/

section Blocks
variable {D : Data} {m0 : Memref sig Kind.tc Space.vmem S2048x8192 EltTy.bf16} {m1 : Memref sig Kind.tc Space.vmem S2048x8192 EltTy.fp8e4m3}
  (h0 : m0.IsWhole) (h1 : m1.IsWhole) {X0 : S2048x8192.Idx → EReal} {X1 : S2048x8192.Idx → EReal}

include h0 in
theorem cols_of (hX : ∀ i j, X0 (ix2 i j) = (D.A i j : EReal)) (o : ℕ) (h) (ho : o + 512 ≤ 8192) :
    CBlk D o ho (View.readAt (Elt Ideal) m0.view (Rect.unit (s := S2048x8192) ![0, o] S2048x512.size h).toLoadRect (h0.unread X0)) := by
  intro i k
  rw [h0.readAt_unread]
  pointwise
  exact hX _ _

include h0 in
theorem rows_of (hX : ∀ i j, X0 (ix2 i j) = (D.A i j : EReal)) (o : ℕ) (h) (ho : o + 256 ≤ 2048) :
    RBlk D o ho (View.readAt (Elt Ideal) m0.view (Rect.unit (s := S2048x8192) ![o, 0] S256x8192.size h).toLoadRect (h0.unread X0)) := by
  intro k j
  rw [h0.readAt_unread]
  pointwise
  exact hX _ _

include h1 in
theorem zcols_of (hX : ∀ y, X1 y = 0) (o : ℕ) (h) :
    ZBlk (View.readAt (Elt Ideal) m1.view (Rect.unit (s := S2048x8192) ![0, o] S2048x512.size h).toLoadRect (h1.unread X1)) := by
  intro i k
  rw [h1.readAt_unread]
  exact hX _

include h1 in
theorem zrows_of (hX : ∀ y, X1 y = 0) (o : ℕ) (h) :
    ZBlk' (View.readAt (Elt Ideal) m1.view (Rect.unit (s := S2048x8192) ![o, 0] S256x8192.size h).toLoadRect (h1.unread X1)) := by
  intro i k
  rw [h1.readAt_unread]
  exact hX _
end Blocks

/-! ## The gradient and the points it moves -/

section Move
variable {D : Data} {s : St} {v0 e z : FVec Ideal S1x2048 .f32} {a t : FVec Ideal S1x1 .f32} {L : FVec Ideal S1x8192 .fp8e4m3}
  {p q : FVec Ideal S1x2048 .f32} {v : FVec Ideal S1x512 .fp8e4m3} {B0 B1 B2 B3 B4 : Vec Ideal S2048x512 .fp8e4m3}
  (h0 : ∀ i, v0 (ix2 0 i) = (D.b i : EReal)) (hQ : ∀ i, k0_pay21 L p q v B0 B1 B2 B3 B4 (ix2 0 i) = (Q D s i : EReal))
include h0 hQ

theorem pay22_at (i : Fin 2048) : k0_pay22 v0 L p q v B0 B1 B2 B3 B4 (ix2 0 i) = (grad D s i : EReal) := by
  pointwise [k0_pay22]
  rw [hQ, h0, ← EReal.coe_sub]
  rfl

theorem pay23_at (i : Fin 2048) (ha : a (ix2 0 0) = (alpha s : EReal)) (hz : z (ix2 0 i) = (s.zeta i : EReal)) :
    k0_pay23 v0 z a L p q v B0 B1 B2 B3 B4 (ix2 0 i) = (zeta' D s i : EReal) := by
  pointwise [k0_pay23]
  rw [pay22_at h0 hQ, ha, hz, ← EReal.coe_mul, ← EReal.coe_sub]
  rfl

theorem pay24_at (i : Fin 2048) (ha : a (ix2 0 0) = (alpha s : EReal)) (ht : t (ix2 0 0) = (tau s : EReal))
    (he : e (ix2 0 i) = (s.eta i : EReal)) (hz : z (ix2 0 i) = (s.zeta i : EReal)) :
    k0_pay24 v0 e z a t L p q v B0 B1 B2 B3 B4 (ix2 0 i) = (eta' D s i : EReal) := by
  pointwise [k0_pay24]
  rw [pay23_at h0 hQ i ha hz, ht, he, ← EReal.coe_sub, ← EReal.coe_mul, ← EReal.coe_add]
  rfl

theorem pay25_rows : Rows' (k0_pay25 v0 L p q v B0 B1 B2 B3 B4) (grad D s) := by
  constructor
  · intro i
    pointwise [k0_pay25]
    simp [pay22_at h0 hQ]
  · intro i
    pointwise [k0_pay25]
    simp [pay22_at h0 hQ, sub_self_real]

theorem pay27_at (k : Fin 256) :
    k0_pay27 v0 L p q v B0 B1 B2 B3 B4 (ix2 0 k) = (grad D s ⟨0 + k.val, by omega⟩ : EReal) ∧
      k0_pay27 v0 L p q v B0 B1 B2 B3 B4 (ix2 1 k) = 0 := by
  obtain ⟨hv, hz⟩ := pay25_rows h0 hQ
  constructor
  · pointwise [k0_pay27]
    exact hv _
  · pointwise [k0_pay27]
    exact hz _
end Move

/-! ## The words of a trip -/

section Words
variable {D : Data} {s : St} {arg0 : Memref sig Kind.tc Space.vmem S2048x8192 EltTy.bf16}
  {arg1 : Memref sig Kind.tc Space.vmem S2048x8192 EltTy.fp8e4m3} {arg7 : Memref sig Kind.tc Space.vmem S3072x2048 EltTy.bf16}
  {v0 : Vec Ideal S1x2048 .f32} {v1 v2 : Vec Ideal S1x8192 .f32} {v4 : FVec Ideal S1x8192 .f32} {v7 : FVec Ideal S1x1 .f32}
  {X_arg0 : BufTy.Contents (Elt Ideal) arg0.view.ty} {X_arg1 : BufTy.Contents (Elt Ideal) arg1.view.ty}
  {X_arg7 : BufTy.Contents (Elt Ideal) arg7.view.ty} {acc : Acc}
  (E : Env D arg0 arg1 arg7 v0 v1 v2 v4 v7 X_arg0 X_arg1 X_arg7) (g : Good s) (H : Holds D s acc)
include E g H

theorem word_negL (j : Fin 8192) : trip_k0_t1.sl.r_3 v1 v4 acc (ix2 0 j) = negL D s j :=
  pay4_at g H.M H.beta j (E.c j) (E.th j) (H.pEta j) (H.pZeta j)

theorem word_x (j : Fin 8192) : trip_k0_t1.sl.r_4 v1 v4 acc (ix2 0 j) = (xLam D s j : EReal) :=
  pay5_at g H.M H.beta j (E.c j) (E.th j) (H.pEta j) (H.pZeta j)

theorem word_rows : Rows (trip_k0_t1.sl.r_5 v1 v2 v4 acc) (fun j => D.u j * xLam D s j) :=
  pay7_rows fun j => pay6_at g H.M H.beta j (E.c j) (E.u j) (E.th j) (H.pEta j) (H.pZeta j)

/-- `A (u · x_lambda)`. -/
theorem word_Q (i : Fin 2048) : trip_k0_t1.sl.r_19 arg0 arg1 arg7 v1 v2 v4 X_arg0 X_arg1 X_arg7 acc (ix2 0 i) = (Q D s i : EReal) := by
  have hR := word_rows E g H
  have h14 : trip_k0_t1.sl.r_14 arg1 v1 v2 v4 X_arg1 acc (ix2 0 i) = 0 :=
    pay16_at (E.zcols _ _) (E.zcols _ _) (E.zcols _ _) (E.zcols _ _) i
  have h16 : trip_k0_t1.sl.r_16 arg1 v1 v2 v4 X_arg1 acc (ix2 0 i) = 0 :=
    pay18_at i h14 (E.zcols _ _) (E.zcols _ _) (E.zcols _ _) (E.zcols _ _) (E.zcols _ _) (E.zcols _ _) (E.zcols _ _)
  have h7 : trip_k0_t1.sl.r_7 arg7 v1 v2 v4 X_arg7 acc (ix2 0 i) = _ := pay9_at (D := D) hR (E.t0 _) (E.t1 _) i
  have h9 : trip_k0_t1.sl.r_9 arg0 arg7 v1 v2 v4 X_arg0 X_arg7 acc (ix2 0 i) = _ :=
    pay11_at (D := D) hR (fun k => (pay10_at hR k).1) (fun k => (pay10_at hR k).2) (E.t2 _) (E.t3 _) (E.t4 _) (E.t5 _)
      (E.cols _ _ (by omega)) (E.cols _ _ (by omega)) i
  have h10 : trip_k0_t1.sl.r_10 arg0 arg7 v1 v2 v4 X_arg0 X_arg7 acc (ix2 0 i) = _ :=
    pay12_at (D := D) hR (E.cols _ _ (by omega)) (E.cols _ _ (by omega)) (E.cols _ _ (by omega)) (E.cols _ _ (by omega))
      (E.cols _ _ (by omega)) i
  have h13 : trip_k0_t1.sl.r_13 arg0 arg7 v1 v2 v4 X_arg0 X_arg7 acc (ix2 0 i) = _ :=
    pay15_at (D := D) hR (fun k => (pay13_at hR k).1) (fun k => (pay13_at hR k).2) (pay14_at (E.cols _ _ (by omega)))
      (E.cols _ _ (by omega)) (E.cols _ _ (by omega)) i
  have h19 : trip_k0_t1.sl.r_19 arg0 arg1 arg7 v1 v2 v4 X_arg0 X_arg1 X_arg7 acc (ix2 0 i) =
      trip_k0_t1.sl.r_13 arg0 arg7 v1 v2 v4 X_arg0 X_arg7 acc (ix2 0 i) :=
    pay21_at i h16 (pay20_at (E.zcols _ _)) (E.zcols _ _) (E.zcols _ _) (E.zcols _ _) (E.zcols _ _)
  rw [h19, h13, h10, h9, h7]
  exact row_parts i

theorem word_zeta (i : Fin 2048) :
    trip_k0_t1.sl.r_20 arg0 arg1 arg7 v0 v1 v2 v4 X_arg0 X_arg1 X_arg7 acc (ix2 0 i) = (zeta' D s i : EReal) :=
  pay23_at E.b (word_Q E g H) i (pay1_at g H.M H.beta) (H.zeta i)

theorem word_eta (i : Fin 2048) :
    trip_k0_t1.sl.r_21 arg0 arg1 arg7 v0 v1 v2 v4 X_arg0 X_arg1 X_arg7 acc (ix2 0 i) = (eta' D s i : EReal) :=
  pay24_at E.b (word_Q E g H) i (pay1_at g H.M H.beta) (pay3_at g H.M H.beta) (H.eta i) (H.zeta i)

theorem word_grad : Rows' (trip_k0_t1.sl.r_22 arg0 arg1 arg7 v0 v1 v2 v4 X_arg0 X_arg1 X_arg7 acc) (grad D s) :=
  pay25_rows E.b (word_Q E g H)

/-- `Aᵀ` of the new `zeta`. -/
theorem word_pZeta (j : Fin 8192) :
    trip_k0_t1.sl.r_32 arg0 arg1 arg7 v0 v1 v2 v4 X_arg0 X_arg1 X_arg7 acc (ix2 0 j) = (col D (zeta' D s) j : EReal) := by
  have hR := word_grad E g H
  have h27 := pay27_at E.b (word_Q E g H)
  have h26 : trip_k0_t1.sl.r_26 arg0 arg1 arg7 v0 v1 v2 v4 X_arg0 X_arg1 X_arg7 acc (ix2 0 j) = _ :=
    pay28_at (D := D) hR (fun k => (h27 k).1) (fun k => (h27 k).2) (E.rows _ _ (by omega)) (E.rows _ _ (by omega)) (E.zrows _ _) (E.zrows _ _) j
  have h27' : trip_k0_t1.sl.r_27 arg0 arg1 arg7 v0 v1 v2 v4 X_arg0 X_arg1 X_arg7 acc (ix2 0 j) = _ :=
    pay29_at (D := D) hR (E.rows _ _ (by omega)) (E.zrows _ _) j
  have h28 : trip_k0_t1.sl.r_28 arg0 arg1 arg7 v0 v1 v2 v4 X_arg0 X_arg1 X_arg7 acc (ix2 0 j) = _ :=
    pay30_at (D := D) hR (E.rows _ _ (by omega)) (E.rows _ _ (by omega)) (E.zrows _ _) (E.zrows _ _) j
  have h29 : trip_k0_t1.sl.r_29 arg0 arg1 arg7 v0 v1 v2 v4 X_arg0 X_arg1 X_arg7 acc (ix2 1 j) = 0 :=
    (pay31_at (D := D) hR (E.rows _ _ (by omega)) j).2
  have h30 : trip_k0_t1.sl.r_30 arg0 arg1 arg7 v0 v1 v2 v4 X_arg0 X_arg1 X_arg7 acc (ix2 0 j) = 0 := pay32_at (E.zrows _ _) j
  have h31 : trip_k0_t1.sl.r_31 arg0 arg1 arg7 v0 v1 v2 v4 X_arg0 X_arg1 X_arg7 acc (ix2 0 j) = _ :=
    pay33_at (D := D) hR (E.rows _ _ (by omega)) j
  have h32 : trip_k0_t1.sl.r_32 arg0 arg1 arg7 v0 v1 v2 v4 X_arg0 X_arg1 X_arg7 acc (ix2 0 j) = _ :=
    pay34_at (D := D) hR (E.rows _ _ (by omega)) (E.rows _ _ (by omega)) (E.zrows _ _) (E.zrows _ _) j h29 h30
  rw [h32, h28, h27', h26, h31, H.pZeta, col_parts, show trip_k0_t1.sl.r acc (ix2 0 0) = _ from pay1_at g H.M H.beta,
    ← EReal.coe_mul, ← EReal.coe_sub, ← col_sub]
  rfl

/-- `Aᵀ` of the new `eta`. -/
theorem word_pEta (j : Fin 8192) :
    trip_k0_t1.sl.r_33 arg0 arg1 arg7 v0 v1 v2 v4 X_arg0 X_arg1 X_arg7 acc (ix2 0 j) = (col D (eta' D s) j : EReal) := by
  have h := word_pZeta E g H j
  unfold trip_k0_t1.sl.r_32 at h
  unfold trip_k0_t1.sl.r_33
  pointwise [k0_pay35]
  rw [h, H.pEta, show trip_k0_t1.sl.r_2 acc (ix2 0 0) = _ from pay3_at g H.M H.beta, ← EReal.coe_sub, ← EReal.coe_mul,
    ← EReal.coe_add, ← col_mix]
  rfl

theorem word_cost (j : Fin 8192) :
    trip_k0_t1.sl.r_34 arg0 arg1 arg7 v0 v1 v2 v4 X_arg0 X_arg1 X_arg7 acc (ix2 0 j) = D.c j - (col D (eta' D s) j : EReal) := by
  have h := word_pEta E g H j
  unfold trip_k0_t1.sl.r_33 at h
  unfold trip_k0_t1.sl.r_34
  pointwise [k0_pay36]
  rw [h, E.c]

/-- The outcome of the test, as the float that is carried. -/
theorem word_ok : trip_k0_t1.sl.r_35 arg0 arg1 arg7 v0 v1 v2 v4 v7 X_arg0 X_arg1 X_arg7 acc (ix2 0 0) = flag (ok D s) :=
  pay37_at g H.M E.th E.btb (word_negL E g H) (word_Q E g H) (word_cost E g H)

theorem word_bit : trip_k0_t1.sl.r_36 arg0 arg1 arg7 v0 v1 v2 v4 v7 X_arg0 X_arg1 X_arg7 acc (ix2 0 0) = bit (ok D s) :=
  pay38_at (word_ok E g H)

/-- One trip is one step. -/
theorem holds_trip (𝒱 : Variants) (c : Dev nD) (bd : Option 𝒱.V) (harg0 : arg0.IsWhole) (harg1 : arg1.IsWhole)
    (arg2 : Memref sig Kind.tc Space.vmem S1x2048 EltTy.f32) (harg2 : arg2.IsWhole)
    (arg3 : Memref sig Kind.tc Space.vmem S1x8192 EltTy.f32) (harg3 : arg3.IsWhole)
    (arg4 : Memref sig Kind.tc Space.vmem S1x8192 EltTy.f32) (harg4 : arg4.IsWhole)
    (arg5 : Memref sig Kind.tc Space.vmem S1x8192 EltTy.f32) (harg5 : arg5.IsWhole)
    (arg6 : Memref sig Kind.tc Space.vmem S1x2048 EltTy.f32) (harg6 : arg6.IsWhole) (harg7 : arg7.IsWhole)
    (k : Fin k0_t1_loop.trips) :
    Holds D (step D s) (tripR_k0_t1 𝒱 c bd arg0 harg0 arg1 harg1 arg2 harg2 arg3 harg3 arg4 harg4 arg5 harg5 arg6 harg6 arg7 harg7
      v0 v1 v2 v4 v7 X_arg0 X_arg1 X_arg7 k acc) := by
  have hb := word_bit E g H
  unfold tripR_k0_t1 trip_k0_t1
  dsimp only
  constructor
  · exact pay56_at (pay39_at H.M H.last (word_ok E g H))
  · exact pay57_at hb H.beta (pay2_at g H.M H.beta)
  · exact word_ok E g H
  · exact fun i => pay58_at hb i (H.eta i) (word_eta E g H i)
  · exact fun i => pay59_at hb i (H.zeta i) (word_zeta E g H i)
  · intro j
    refine (pay60_at hb j (H.pEta j) (word_pEta E g H j)).trans (congrArg _ ?_)
    show _ = col D (fun i => if ok D s then eta' D s i else s.eta i) j
    split <;> rfl
  · intro j
    refine (pay61_at hb j (H.pZeta j) (word_pZeta E g H j)).trans (congrArg _ ?_)
    show _ = col D (fun i => if ok D s then zeta' D s i else s.zeta i) j
    split <;> rfl
  · exact fun j => pay62_at hb j (H.x j) (pay3_at g H.M H.beta) (word_x E g H j)

end Words

end Cert.KernelIdeal.Gen
-- ==== Proof.Run.lean ====
/- The kernel's body on its blocks: the loop's thirty trips are thirty steps of the solver, and the two
   result blocks are read off the last carried values. -/
module

public import proofs.«01_k».proof.Proof.Trip
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Cert.Solver
open scoped BigOperators Classical

/-- The state that the solver ends in. -/
@[irreducible] def final (D : Data) : St := (step D)^[30] (init D)

theorem final_eq (D : Data) : final D = (step D)^[30] (init D) := by unfold final; rfl

/-- The inputs' blocks hold the data; the matrix's narrow remainder is zero. -/
structure Blocks (D : Data) (x0 : Vec Ideal S2048x8192 .bf16) (x1 : Vec Ideal S2048x8192 .fp8e4m3) (x2 : Vec Ideal S1x2048 .f32)
    (x3 x4 : Vec Ideal S1x8192 .f32) : Prop where
  A : ∀ i j, x0 (ix2 i j) = (D.A i j : EReal)
  zero : ∀ y, x1 y = 0
  b : ∀ i, x2 (ix2 0 i) = (D.b i : EReal)
  c : ∀ j, x3 (ix2 0 j) = D.c j
  u : ∀ j, x4 (ix2 0 j) = (D.u j : EReal)

section Start
variable {D : Data} {x0 : Vec Ideal S2048x8192 .bf16} {x1 : Vec Ideal S2048x8192 .fp8e4m3} {x2 : Vec Ideal S1x2048 .f32}
  {x3 x4 : Vec Ideal S1x8192 .f32} (B : Blocks D x0 x1 x2 x3 x4)
include B

/-- What the loop is entered with is the first state. -/
theorem holds_init : Holds D (init D)
    ((k0_pay48, k0_pay49, k0_pay50, k0_pay51, k0_pay52, k0_pay53, k0_pay54, k0_pay55 x3 (k0_pay40 x4)) : Acc) := by
  constructor
  · pointwise [k0_pay48]
    exact bits_ten
  · pointwise [k0_pay49]
    simp [init]
  · pointwise [k0_pay50]
    simp [init, flag]
  · intro i
    pointwise [k0_pay51]
    simp [init]
  · intro i
    pointwise [k0_pay52]
    simp [init]
  · intro j
    pointwise [k0_pay53]
    simp [init, col_zero]
  · intro j
    pointwise [k0_pay54]
    simp [init, col_zero]
  · intro j
    exact pay55_at j (B.c j) (pay40_at j (B.u j))

theorem t0_of (h) : TBlk D 0 (by omega) (k0_pay42 (View.ld x0 (Rect.unit (s := S2048x8192) ![0, 0] S2048x512.size h))) := by
  intro k i
  pointwise [k0_pay42]
  exact B.A _ _
theorem t1_of (h) : TBlk D 512 (by omega) (k0_pay43 (View.ld x0 (Rect.unit (s := S2048x8192) ![0, 512] S2048x512.size h))) := by
  intro k i
  pointwise [k0_pay43]
  exact B.A _ _
theorem t2_of (h) : TBlk D 1024 (by omega) (k0_pay44 (View.ld x0 (Rect.unit (s := S2048x8192) ![0, 1024] S2048x512.size h))) := by
  intro k i
  pointwise [k0_pay44]
  exact B.A _ _
theorem t3_of (h) : TBlk D 1536 (by omega) (k0_pay45 (View.ld x0 (Rect.unit (s := S2048x8192) ![0, 1536] S2048x512.size h))) := by
  intro k i
  pointwise [k0_pay45]
  exact B.A _ _
theorem t4_of (h) : TBlk D 2048 (by omega) (k0_pay46 (View.ld x0 (Rect.unit (s := S2048x8192) ![0, 2048] S2048x512.size h))) := by
  intro k i
  pointwise [k0_pay46]
  exact B.A _ _
theorem t5_of (h) : TBlk D 2560 (by omega) (k0_pay47 (View.ld x0 (Rect.unit (s := S2048x8192) ![0, 2560] S2048x512.size h))) := by
  intro k i
  pointwise [k0_pay47]
  exact B.A _ _
end Start

section Whole
variable {D : Data} (c : Dev nD) (arg0 : Memref sig .tc .vmem S2048x8192 .bf16) (harg0 : arg0.IsWhole)
  (arg1 : Memref sig .tc .vmem S2048x8192 .fp8e4m3) (harg1 : arg1.IsWhole) (arg2 : Memref sig .tc .vmem S1x2048 .f32) (harg2 : arg2.IsWhole)
  (arg3 : Memref sig .tc .vmem S1x8192 .f32) (harg3 : arg3.IsWhole) (arg4 : Memref sig .tc .vmem S1x8192 .f32) (harg4 : arg4.IsWhole)
  (arg5 : Memref sig .tc .vmem S1x8192 .f32) (harg5 : arg5.IsWhole) (arg6 : Memref sig .tc .vmem S1x2048 .f32) (harg6 : arg6.IsWhole)
  (arg7 : Memref sig .tc .vmem S3072x2048 .bf16) (harg7 : arg7.IsWhole)

/-- The trips carry the solver's states. -/
theorem holds_trips {v0 : Vec Ideal S1x2048 .f32} {v1 v2 : Vec Ideal S1x8192 .f32} {v4 : FVec Ideal S1x8192 .f32} {v7 : FVec Ideal S1x1 .f32}
    {X0 : BufTy.Contents (Elt Ideal) arg0.view.ty} {X1 : BufTy.Contents (Elt Ideal) arg1.view.ty}
    {X7 : BufTy.Contents (Elt Ideal) arg7.view.ty} {acc : Acc} (E : Env D arg0 arg1 arg7 v0 v1 v2 v4 v7 X0 X1 X7)
    (H : Holds D (init D) acc) (k : ℕ) (hk : k ≤ k0_t1_loop.trips) :
    Holds D ((step D)^[k] (init D)) (st_k0_t1 Variants.none c none arg0 harg0 arg1 harg1 arg2 harg2 arg3 harg3 arg4 harg4 arg5 harg5 arg6 harg6
      arg7 harg7 v0 v1 v2 v4 v7 X0 X1 X7 acc k) := by
  induction k with
  | zero => exact H
  | succ k ih =>
    rw [Function.iterate_succ_apply']
    exact (st_k0_t1_succ Variants.none c none arg0 harg0 arg1 harg1 arg2 harg2 arg3 harg3 arg4 harg4 arg5 harg5 arg6 harg6
      arg7 harg7 v0 v1 v2 v4 v7 X0 X1 X7 acc ⟨k, hk⟩) ▸
      holds_trip E (good_iter D k) (ih (by omega)) Variants.none c none harg0 harg1 arg2 harg2 arg3 harg3 arg4 harg4 arg5 harg5 arg6 harg6 harg7 ⟨k, hk⟩

variable {x0 : Vec Ideal S2048x8192 .bf16} {x1 : Vec Ideal S2048x8192 .fp8e4m3} {x2 : Vec Ideal S1x2048 .f32}
  {x3 x4 : Vec Ideal S1x8192 .f32} (B : Blocks D x0 x1 x2 x3 x4)

/-- The writes of the transposed columns, the last one first. -/
abbrev pieces (x0 : Vec Ideal S2048x8192 .bf16) : List (View.Piece (Elt Ideal) S3072x2048 .bf16) :=
  [⟨Rect.unit ![2560, 0] S512x2048.size inb_S3072x2048_S512x2048_2560_0, k0_pay47 (View.ld x0 (Rect.unit ![0, 2560] S2048x512.size inb_S2048x8192_S2048x512_0_2560))⟩,
   ⟨Rect.unit ![2048, 0] S512x2048.size inb_S3072x2048_S512x2048_2048_0, k0_pay46 (View.ld x0 (Rect.unit ![0, 2048] S2048x512.size inb_S2048x8192_S2048x512_0_2048))⟩,
   ⟨Rect.unit ![1536, 0] S512x2048.size inb_S3072x2048_S512x2048_1536_0, k0_pay45 (View.ld x0 (Rect.unit ![0, 1536] S2048x512.size inb_S2048x8192_S2048x512_0_1536))⟩,
   ⟨Rect.unit ![1024, 0] S512x2048.size inb_S3072x2048_S512x2048_1024_0, k0_pay44 (View.ld x0 (Rect.unit ![0, 1024] S2048x512.size inb_S2048x8192_S2048x512_0_1024))⟩,
   ⟨Rect.unit ![512, 0] S512x2048.size inb_S3072x2048_S512x2048_512_0, k0_pay43 (View.ld x0 (Rect.unit ![0, 512] S2048x512.size inb_S2048x8192_S2048x512_0_512))⟩,
   ⟨Rect.unit ![0, 0] S512x2048.size inb_S3072x2048_S512x2048_0_0, k0_pay42 (View.ld x0 (Rect.unit ![0, 0] S2048x512.size inb_S2048x8192_S2048x512_0_0))⟩]

/-! Each of the six, read back. -/

theorem read0 : arg7.view.readCov (pieces x0) (Rect.unit (s := S3072x2048) ![0, 0] S512x2048.size inb_S3072x2048_S512x2048_0_0).toLoadRect =
    k0_pay42 (View.ld x0 (Rect.unit ![0, 0] S2048x512.size inb_S2048x8192_S2048x512_0_0)) := by
  unfold pieces
  simp (disch := decide) only [↓ View.readCov_skip, ↓ View.readCov_cons_toLoadRect]
theorem read1 : arg7.view.readCov (pieces x0) (Rect.unit (s := S3072x2048) ![512, 0] S512x2048.size inb_S3072x2048_S512x2048_512_0).toLoadRect =
    k0_pay43 (View.ld x0 (Rect.unit ![0, 512] S2048x512.size inb_S2048x8192_S2048x512_0_512)) := by
  unfold pieces
  simp (disch := decide) only [↓ View.readCov_skip, ↓ View.readCov_cons_toLoadRect]
theorem read2 : arg7.view.readCov (pieces x0) (Rect.unit (s := S3072x2048) ![1024, 0] S512x2048.size inb_S3072x2048_S512x2048_1024_0).toLoadRect =
    k0_pay44 (View.ld x0 (Rect.unit ![0, 1024] S2048x512.size inb_S2048x8192_S2048x512_0_1024)) := by
  unfold pieces
  simp (disch := decide) only [↓ View.readCov_skip, ↓ View.readCov_cons_toLoadRect]
theorem read3 : arg7.view.readCov (pieces x0) (Rect.unit (s := S3072x2048) ![1536, 0] S512x2048.size inb_S3072x2048_S512x2048_1536_0).toLoadRect =
    k0_pay45 (View.ld x0 (Rect.unit ![0, 1536] S2048x512.size inb_S2048x8192_S2048x512_0_1536)) := by
  unfold pieces
  simp (disch := decide) only [↓ View.readCov_skip, ↓ View.readCov_cons_toLoadRect]
theorem read4 : arg7.view.readCov (pieces x0) (Rect.unit (s := S3072x2048) ![2048, 0] S512x2048.size inb_S3072x2048_S512x2048_2048_0).toLoadRect =
    k0_pay46 (View.ld x0 (Rect.unit ![0, 2048] S2048x512.size inb_S2048x8192_S2048x512_0_2048)) := by
  unfold pieces
  simp (disch := decide) only [↓ View.readCov_skip, ↓ View.readCov_cons_toLoadRect]
theorem read5 : arg7.view.readCov (pieces x0) (Rect.unit (s := S3072x2048) ![2560, 0] S512x2048.size inb_S3072x2048_S512x2048_2560_0).toLoadRect =
    k0_pay47 (View.ld x0 (Rect.unit ![0, 2560] S2048x512.size inb_S2048x8192_S2048x512_0_2560)) := by
  unfold pieces
  simp (disch := decide) only [↓ View.readCov_skip, ↓ View.readCov_cons_toLoadRect]

include B in
/-- The loop finds its surroundings as `Env` says. -/
theorem env_of : Env D arg0 arg1 arg7 x2 x3 x4 (k0_pay40 x4) (k0_pay41 x2) (harg0.unread x0) (harg1.unread x1)
    (arg7.view.writes (Elt Ideal) arg7.view.junk (pieces x0)) where
  b := B.b
  c := B.c
  u := B.u
  th j := pay40_at j (B.u j)
  btb := pay41_at B.b
  cols := cols_of harg0 B.A
  rows := rows_of harg0 B.A
  zcols := zcols_of harg1 B.zero
  zrows := zrows_of harg1 B.zero
  t0 _ := (congrArg (TBlk D 0 (by omega)) (read0 arg7 (x0 := x0))).mpr (t0_of B _)
  t1 _ := (congrArg (TBlk D 512 (by omega)) (read1 arg7 (x0 := x0))).mpr (t1_of B _)
  t2 _ := (congrArg (TBlk D 1024 (by omega)) (read2 arg7 (x0 := x0))).mpr (t2_of B _)
  t3 _ := (congrArg (TBlk D 1536 (by omega)) (read3 arg7 (x0 := x0))).mpr (t3_of B _)
  t4 _ := (congrArg (TBlk D 2048 (by omega)) (read4 arg7 (x0 := x0))).mpr (t4_of B _)
  t5 _ := (congrArg (TBlk D 2560 (by omega)) (read5 arg7 (x0 := x0))).mpr (t5_of B _)

include B

/-- The loop ends with the last state. -/
theorem holds_final : Holds D (final D) (st_k0_t1 Variants.none c none arg0 harg0 arg1 harg1 arg2 harg2 arg3 harg3 arg4 harg4 arg5 harg5 arg6 harg6
      arg7 harg7 x2 x3 x4 (k0_pay40 x4) (k0_pay41 x2) (harg0.unread x0) (harg1.unread x1)
      (arg7.view.writes (Elt Ideal) arg7.view.junk (pieces x0))
      (k0_pay48, k0_pay49, k0_pay50, k0_pay51, k0_pay52, k0_pay53, k0_pay54, k0_pay55 x3 (k0_pay40 x4)) 30) := by
  rw [final_eq]
  exact holds_trips c arg0 harg0 arg1 harg1 arg2 harg2 arg3 harg3 arg4 harg4 arg5 harg5 arg6 harg6 arg7 harg7
    (env_of arg0 harg0 arg1 harg1 arg7 B) (holds_init B) 30 (by decide)

/-- The first result's block. -/
theorem out5_at (j : Fin 8192) : out0_A_5 c arg0 harg0 arg1 harg1 arg2 harg2 arg3 harg3 arg4 harg4 arg5 harg5 arg6 harg6 arg7 harg7
    x0 x1 x2 x3 x4 (ix2 0 j) = ((D.u j * (final D).x j : ℝ) : EReal) := by
  frame_out
  have h := (holds_final c arg0 harg0 arg1 harg1 arg2 harg2 arg3 harg3 arg4 harg4 arg5 harg5 arg6 harg6 arg7 harg7 B).x j
  pointwise [k0_pay63]
  rw [B.u, EReal.coe_mul, ← h]
  rfl

/-- The second result's block. -/
theorem out6_at (i : Fin 2048) : out0_A_6 c arg0 harg0 arg1 harg1 arg2 harg2 arg3 harg3 arg4 harg4 arg5 harg5 arg6 harg6 arg7 harg7
    x0 x1 x2 x3 x4 (ix2 0 i) = ((final D).eta i : EReal) := by
  frame_out
  exact (holds_final c arg0 harg0 arg1 harg1 arg2 harg2 arg3 harg3 arg4 harg4 arg5 harg5 arg6 harg6 arg7 harg7 B).eta i
end Whole

end Cert.KernelIdeal.Gen
-- ==== Proof.Inputs.lean ====
/- The data that the four input arrays hold, and what the precondition says of them: the matrix, `b` and
   `u` hold reals. -/
module

public import proofs.«01_k».proof.Proof.Step
public import proofs.«01_k».proof.Defs
public import proofs.«01_k».proof.Proof.Gen.Pre_finite
public import Idealize.ShloMosaic.Lib.Pointwise

@[expose] public section

set_option maxRecDepth 16384

noncomputable section

namespace Cert.Solver

open Idealize.ShloMosaic Cert.Pre_finite Cert.Pre_finite.Gen

/-- The data of four arrays. -/
def dataOf (A : FVec Ideal S2048x8192 .f32) (b : FVec Ideal S1x2048 .f32) (c u : FVec Ideal S1x8192 .f32) : Data where
  A i j := EReal.toReal (A (ix2 i j))
  b i := EReal.toReal (b (ix2 0 i))
  c j := c (ix2 0 j)
  u j := EReal.toReal (u (ix2 0 j))

/-- The arrays hold the data. -/
structure Inputs (D : Data) (A : FVec Ideal S2048x8192 .f32) (b : FVec Ideal S1x2048 .f32) (c u : FVec Ideal S1x8192 .f32) : Prop where
  A : ∀ i j, A (ix2 i j) = (D.A i j : EReal)
  b : ∀ i, b (ix2 0 i) = (D.b i : EReal)
  c : ∀ j, c (ix2 0 j) = D.c j
  u : ∀ j, u (ix2 0 j) = (D.u j : EReal)

theorem bits_inf : Ideal.ofBits .f32 0x7F800000#32 = ⊤ := by
  simp [Ideal.ofBits, Ideal.ieee]

/-- A value whose absolute value is below infinity is real. -/
theorem coe_of_abs_lt {y : EReal} (h : max y (-y) < ⊤) : y = ((EReal.toReal y : ℝ) : EReal) := by
  refine (EReal.coe_toReal ?_ ?_).symm
  · rintro rfl
    simp at h
  · rintro rfl
    simp at h

/-- … as the precondition's comparison says it. -/
theorem coe_of_bit {y : Ideal .f32} (h : BitVec.ofBool (decide (FloatOps.absf y < Ideal.ofBits FTy.f32 0x7F800000#32)) = 1#1) :
    (y : EReal) = ((EReal.toReal y : ℝ) : EReal) := by
  by_cases hy : FloatOps.absf y < Ideal.ofBits FTy.f32 0x7F800000#32
  · rw [bits_inf] at hy
    exact coe_of_abs_lt hy
  · simp [hy] at h

/-- What the precondition says of the arrays. -/
theorem inputs_of {A : FVec Ideal S2048x8192 .f32} {b : FVec Ideal S1x2048 .f32} {c u : FVec Ideal S1x8192 .f32}
    (hA : (fn A b c u).1 = fun _ => 1#1) (hb : (fn A b c u).2.1 = fun _ => 1#1) (hu : (fn A b c u).2.2 = fun _ => 1#1) :
    Inputs (dataOf A b c u) A b c u where
  A i j := by
    have h := congrFun hA (ix2 i j)
    pointwise [fn] at h
    exact coe_of_bit h
  b i := by
    have h := congrFun hb (ix2 0 i)
    pointwise [fn] at h
    exact coe_of_bit h
  c j := rfl
  u j := by
    have h := congrFun hu (ix2 0 j)
    pointwise [fn] at h
    exact coe_of_bit h

end Cert.Solver
-- ==== Proof.Result.lean ====
/- The kernel's two result arrays: the region's input blocks hold the data, so each result block is what
   `Run` says, and the one block is the whole array. -/
module

public import proofs.«01_k».proof.Proof.Run
public import proofs.«01_k».proof.Proof.Inputs
public import Idealize.ShloMosaic.Lib.StableHlo.RunRead

@[expose] public section

set_option maxRecDepth 16384

noncomputable section

namespace Cert.KernelIdeal.Gen

open Idealize.ShloMosaic Idealize.ShloMosaic.TcCoe Idealize.ShloMosaic.StableHlo Cert.Solver

variable (m : (ℓ : Loc nD τ sig) → Buf (Elt Ideal) ℓ)

/-- An index of one row. -/
theorem row0 {n : ℕ} (y : (⟨2, ![1, n]⟩ : Shape).Idx) : ∃ j : Fin n, y = ix2 0 j :=
  ⟨y 1, (eq_ix2 y).trans (congrArg (fun i => ix2 i (y 1)) (Subsingleton.elim (α := Fin 1) _ _))⟩

/-! ## The input blocks -/

/-- Every input's block is at the origin. -/
theorem idx : ∀ t : Fin cfg0.N, win0_0.index t = ![0, 0] ∧ win0_1.index t = ![0, 0] ∧ win0_2.index t = ![0, 0] ∧ win0_3.index t = ![0, 0] ∧
    win0_4.index t = ![0, 0] :=
  (by decide +kernel : ∀ t : Fin grid0.N, _)

/-- The broad part of the matrix is the matrix. -/
theorem V_high (c : Dev nD) (y : S2048x8192.Idx) : V m c main_call0_v0 y = m ((c : Thread nD τ).loc main_arg0) y := by
  simp only [V, hostOps0]
  after_reads_simp
  rfl

/-- The kernel's own spelling of the remainder. -/
theorem low_at (x : ℝ) (y : EReal) (h : y = (x : EReal)) : (y - y) * Ideal.ofBits .f32 0x44000000#32 = 0 := by
  rw [h, sub_self_real, zero_mul]

/-- The narrow part of a real matrix is zero. -/
theorem V_low (c : Dev nD) (y : S2048x8192.Idx) (x : ℝ) (h : m ((c : Thread nD τ).loc main_arg0) y = (x : EReal)) :
    V m c main_call0_v5 y = (0 : EReal) := by
  refine Eq.trans ?_ (low_at x _ h)
  simp only [V, hostOps0]
  after_reads_simp
  rfl

theorem iblk0 (c : Dev nD) (t : Fin cfg0.N) : iblk m c 0 t = m ((c : Thread nD τ).loc main_arg0) := by
  funext y
  refine Eq.trans ?_ (V_high m c y)
  blk_ext [iblk, idx t]
theorem iblk2 (c : Dev nD) (t : Fin cfg0.N) : iblk m c 2 t = m ((c : Thread nD τ).loc main_arg1) := by
  blk_ext! [iblk, V, idx t]
theorem iblk3 (c : Dev nD) (t : Fin cfg0.N) : iblk m c 3 t = m ((c : Thread nD τ).loc main_arg2) := by
  blk_ext! [iblk, V, idx t]
theorem iblk4 (c : Dev nD) (t : Fin cfg0.N) : iblk m c 4 t = m ((c : Thread nD τ).loc main_arg3) := by
  blk_ext! [iblk, V, idx t]

variable {D : Data} {m} {c : Dev nD} (I : Inputs D (m ((c : Thread nD τ).loc main_arg0)) (m ((c : Thread nD τ).loc main_arg1))
  (m ((c : Thread nD τ).loc main_arg2)) (m ((c : Thread nD τ).loc main_arg3)))
include I

theorem iblk1 (t : Fin cfg0.N) (y : S2048x8192.Idx) : iblk m c 1 t y = (0 : EReal) := by
  blk_simp [iblk]
  refine V_low m c _ (D.A _ _) ((congrArg _ (eq_ix2 _)).trans (I.A _ _))

theorem blocks (t : Fin cfg0.N) : Blocks D (iblk m c 0 t) (iblk m c 1 t) (iblk m c 2 t) (iblk m c 3 t) (iblk m c 4 t) where
  A i j := by rw [iblk0]; exact I.A i j
  zero y := iblk1 I t y
  b i := by rw [iblk2]; exact I.b i
  c j := by rw [iblk3]; exact I.c j
  u j := by rw [iblk4]; exact I.u j

/-! ## The result arrays -/

/-- The first result: `u · x`. -/
def first (D : Data) : S1x8192.Idx → EReal := fun y => ((D.u (y 1) * (final D).x (y 1) : ℝ) : EReal)
/-- The second result: `eta`. -/
def second (D : Data) : S1x2048.Idx → EReal := fun y => ((final D).eta (y 1) : EReal)

section Block
variable {x0 : Vec Ideal S2048x8192 .bf16} {x1 : Vec Ideal S2048x8192 .fp8e4m3} {x2 : Vec Ideal S1x2048 .f32}
  {x3 x4 : Vec Ideal S1x8192 .f32} (B : Blocks D x0 x1 x2 x3 x4)
  (arg0 : Memref sig .tc .vmem S2048x8192 .bf16) (harg0 : arg0.IsWhole)
  (arg1 : Memref sig .tc .vmem S2048x8192 .fp8e4m3) (harg1 : arg1.IsWhole) (arg2 : Memref sig .tc .vmem S1x2048 .f32) (harg2 : arg2.IsWhole)
  (arg3 : Memref sig .tc .vmem S1x8192 .f32) (harg3 : arg3.IsWhole) (arg4 : Memref sig .tc .vmem S1x8192 .f32) (harg4 : arg4.IsWhole)
  (arg5 : Memref sig .tc .vmem S1x8192 .f32) (harg5 : arg5.IsWhole) (arg6 : Memref sig .tc .vmem S1x2048 .f32) (harg6 : arg6.IsWhole)
  (arg7 : Memref sig .tc .vmem S3072x2048 .bf16) (harg7 : arg7.IsWhole)
omit I
include B

theorem block5 : out0_A_5 c arg0 harg0 arg1 harg1 arg2 harg2 arg3 harg3 arg4 harg4 arg5 harg5 arg6 harg6 arg7 harg7 x0 x1 x2 x3 x4 = first D := by
  funext y
  obtain ⟨j, rfl⟩ := row0 y
  exact out5_at c arg0 harg0 arg1 harg1 arg2 harg2 arg3 harg3 arg4 harg4 arg5 harg5 arg6 harg6 arg7 harg7 B j

theorem block6 : out0_A_6 c arg0 harg0 arg1 harg1 arg2 harg2 arg3 harg3 arg4 harg4 arg5 harg5 arg6 harg6 arg7 harg7 x0 x1 x2 x3 x4 = second D := by
  funext y
  obtain ⟨j, rfl⟩ := row0 y
  exact out6_at c arg0 harg0 arg1 harg1 arg2 harg2 arg3 harg3 arg4 harg4 arg5 harg5 arg6 harg6 arg7 harg7 B j
end Block

theorem arr5 : (dats m 0 c).arrAt 5 cfg0.N = first D := by
  refine (dats m 0 c).arrAt_eq_of_after_last 5 t0_0 (by decide +kernel) _ fun j => ?_
  blk_simp
  rw [after0_5]
  unfold outsAt0
  dsimp only
  rw [block5 (blocks I t0_0)]

theorem arr6 : (dats m 0 c).arrAt 6 cfg0.N = second D := by
  refine (dats m 0 c).arrAt_eq_of_after_last 6 t0_0 (by decide +kernel) _ fun j => ?_
  blk_simp
  rw [after0_6]
  unfold outsAt0
  dsimp only
  rw [block6 (blocks I t0_0)]

end Cert.KernelIdeal.Gen
-- ==== Proof.Model.lean ====
/- One trip of the reference's loop is one step of the solver, and its entry is the first state. -/
module

public import proofs.«01_k».proof.Proof.Inputs
public import proofs.«01_k».proof.Proof.Parts
public import proofs.«01_k».proof.Proof.Gen.ReferenceIdeal.Run

@[expose] public section

set_option maxRecDepth 16384

noncomputable section

namespace Cert.ReferenceIdeal.Value

open Idealize.ShloMosaic Idealize.ShloMosaic.TcCoe Idealize.ShloMosaic.StableHlo Cert.Solver
open Cert.KernelIdeal.Gen (flag bit ofBool_eq select_bit)
open scoped BigOperators Classical

/-- The carried buffers hold a state; the first six hold the data throughout. -/
structure Carries (D : Data) (s : St) (V0 : Valuation τ sig (Elt Ideal)) : Prop where
  A : ∀ i j, V0 (Proc.devRef .tc main_v22_0) (ix2 i j) = (D.A i j : EReal)
  c : ∀ j, V0 (Proc.devRef .tc main_v22_1) (ix2 0 j) = D.c j
  th : ∀ j, V0 (Proc.devRef .tc main_v22_2) (ix2 0 j) = ((10 * D.u j : ℝ) : EReal)
  u : ∀ j, V0 (Proc.devRef .tc main_v22_3) (ix2 0 j) = (D.u j : EReal)
  b : ∀ i, V0 (Proc.devRef .tc main_v22_4) (ix2 0 i) = (D.b i : EReal)
  btb : V0 (Proc.devRef .tc main_v22_5) (ix2 0 0) = ((∑ i, D.b i * D.b i : ℝ) : EReal)
  M : V0 (Proc.devRef .tc main_v22_8) (ix2 0 0) = (s.M : EReal)
  beta : V0 (Proc.devRef .tc main_v22_9) (ix2 0 0) = (s.beta : EReal)
  eta : ∀ i, V0 (Proc.devRef .tc main_v22_10) (ix2 0 i) = (s.eta i : EReal)
  zeta : ∀ i, V0 (Proc.devRef .tc main_v22_11) (ix2 0 i) = (s.zeta i : EReal)
  last : V0 (Proc.devRef .tc main_v22_12) (ix2 0 0) = bit s.last
  x : ∀ j, V0 (Proc.devRef .tc main_v22_13) (ix2 0 j) = (s.x j : EReal)

/-! ## The values of a trip -/

section Trip
variable {D : Data} {s : St} {V0 : Valuation τ sig (Elt Ideal)} (g : Good s) (H : Carries D s V0)
include g H

theorem val_alpha : res_main_while0b_v32 V0 (ix2 0 0) = (alpha s : EReal) := by
  pointwise [res_main_while0b_v32]
  rw [H.M, H.beta, bits_half, bits_quarter, div_real _ g.1.ne', div_real _ g.1.ne', ← EReal.coe_add, div_real _ g.1.ne', sqrt_real (root_nonneg g),
    ← EReal.coe_add]
  rfl

theorem val_beta : res_main_while0b_v33 V0 (ix2 0 0) = (beta' s : EReal) := by
  pointwise [res_main_while0b_v33]
  rw [val_alpha g H, H.beta, ← EReal.coe_add]
  rfl

theorem val_tau : res_main_while0b_v34 V0 (ix2 0 0) = (tau s : EReal) := by
  pointwise [res_main_while0b_v34]
  rw [val_alpha g H, val_beta g H, div_real _ (beta'_pos g).ne']
  rfl

theorem val_negL (j : Fin 8192) : res_main_while0b_v44 V0 (ix2 0 j) = negL D s j := by
  pointwise [res_main_while0b_v44]
  rw [H.c, H.th]
  unfold negL Solver.slope col lam
  rw [coe_sum]
  simp only [val_tau g H, H.eta, H.zeta, H.A, EReal.coe_mul, EReal.coe_add, EReal.coe_sub]

theorem val_xLam (j : Fin 8192) : res_main_while0b_v50 V0 (ix2 0 j) = (xLam D s j : EReal) := by
  pointwise [res_main_while0b_v50]
  rw [val_negL g H]
  exact logistic_eq _

theorem val_Q (i : Fin 2048) : res_main_while0b_v54 V0 (ix2 0 i) = (Q D s i : EReal) := by
  pointwise [res_main_while0b_v54]
  simp only [H.A, H.u, val_xLam g H, ← EReal.coe_mul]
  refine (coe_sum _).symm.trans (congrArg _ ?_)
  exact Finset.sum_congr rfl fun j _ => mul_comm _ _

theorem val_zeta (i : Fin 2048) : res_main_while0b_v58 V0 (ix2 0 i) = (zeta' D s i : EReal) := by
  pointwise [res_main_while0b_v58]
  rw [H.zeta, val_alpha g H, val_Q g H, H.b, ← EReal.coe_sub, ← EReal.coe_mul, ← EReal.coe_sub]
  rfl

theorem val_eta (i : Fin 2048) : res_main_while0b_v62 V0 (ix2 0 i) = (eta' D s i : EReal) := by
  pointwise [res_main_while0b_v62]
  rw [H.eta, val_tau g H, val_zeta g H, ← EReal.coe_sub, ← EReal.coe_mul, ← EReal.coe_add]
  rfl

theorem val_negE (j : Fin 8192) : res_main_while0b_v68 V0 (ix2 0 j) = negE D s j := by
  pointwise [res_main_while0b_v68]
  rw [H.c, H.th]
  unfold negE Solver.slope col
  rw [coe_sum]
  simp only [val_eta g H, H.A, EReal.coe_mul]

theorem val_zero : res_main_while0b_cst_29 V0 ix0 = (0 : EReal) := by
  pointwise [res_main_while0b_cst_29]

theorem val_zero' : res_main_while0b_cst_30 V0 ix0 = (0 : EReal) := by
  pointwise [res_main_while0b_cst_30]

theorem val_subE (j : Fin 8192) : res_main_while0b_v79 V0 (ix2 0 j) = 0 - negE D s j := by
  pointwise [res_main_while0b_v79]
  rw [val_zero g H, val_negE g H]

theorem val_subL (j : Fin 8192) : res_main_while0b_v92 V0 (ix2 0 j) = 0 - negL D s j := by
  pointwise [res_main_while0b_v92]
  rw [val_zero' g H, val_negL g H]

theorem val_ok : res_main_while0b_v109 V0 (ix2 0 0) = bit (ok D s) := by
  pointwise [res_main_while0b_v109]
  rw [ofBool_eq]
  congr 1
  simp only [ne_eq, not_true_eq_false, if_false, val_zero g H, val_zero' g H, val_subE g H, val_subL g H, val_negE g H, val_negL g H, val_Q g H,
    H.btb, H.M, bits_half, bits_ten, bits_eps]
  simp only [← EReal.coe_mul, ← coe_sum, ← EReal.coe_sub, div_real _ g.1.ne']
  show ((_ : EReal) + Ideal.div (∑ j, ((max 0 (negE D s j) + Ideal.log1p (Ideal.exp (-(max (0 - negE D s j) (-(0 - negE D s j)))))) -
    (max 0 (negL D s j) + Ideal.log1p (Ideal.exp (-(max (0 - negL D s j) (-(0 - negL D s j)))))))) _ ≤ _) = _
  simp only [max_neg]
  rfl

/-- A trip of the loop carries the next state. -/
theorem carries_step : Carries D (step D s) (STEP V0) where
  A := by rw [STEP_main_v22_0]; exact H.A
  c := by rw [STEP_main_v22_1]; exact H.c
  th := by rw [STEP_main_v22_2]; exact H.th
  u := by rw [STEP_main_v22_3]; exact H.u
  b := by rw [STEP_main_v22_4]; exact H.b
  btb := by rw [STEP_main_v22_5]; exact H.btb
  M := by
    rw [STEP_main_v22_8, step_main_v22_8, id]
    pointwise
    rw [val_ok g H, H.last, H.M, bits_half, bits_two, bits_eps, select_bit, select_bit, ← EReal.coe_mul, ← EReal.coe_mul]
    simp only [step, ← max_real, apply_ite (fun r : ℝ => (r : EReal))]
  beta := by
    rw [STEP_main_v22_9, step_main_v22_9, id]
    pointwise
    rw [val_ok g H, val_beta g H, H.beta, select_bit]
    simp only [step, apply_ite (fun r : ℝ => (r : EReal))]
  eta i := by
    rw [STEP_main_v22_10, step_main_v22_10, id]
    pointwise
    rw [val_ok g H, val_eta g H, H.eta, select_bit]
    simp only [step, apply_ite (fun r : ℝ => (r : EReal))]
  zeta i := by
    rw [STEP_main_v22_11, step_main_v22_11, id]
    pointwise
    rw [val_ok g H, val_zeta g H, H.zeta, select_bit]
    simp only [step, apply_ite (fun r : ℝ => (r : EReal))]
  last := by
    rw [STEP_main_v22_12, step_main_v22_12, id, val_ok g H]
    rfl
  x j := by
    rw [STEP_main_v22_13, step_main_v22_13, id]
    pointwise
    rw [val_ok g H, val_tau g H, val_xLam g H, H.x, select_bit, ← EReal.coe_sub, ← EReal.coe_mul, ← EReal.coe_add]
    simp only [step, apply_ite (fun r : ℝ => (r : EReal))]
end Trip

/-! ## The entry -/

variable (m : (ℓ : Loc nD τ sig) → Buf (Elt Ideal) ℓ) {c : Dev nD} {D : Data}
  (I : Inputs D (m ((c : Thread nD τ).loc main_arg0)) (m ((c : Thread nD τ).loc main_arg1))
    (m ((c : Thread nD τ).loc main_arg2)) (m ((c : Thread nD τ).loc main_arg3)))
include I

theorem carries_entry : Carries D (init D) (entryContents preI m c) := by
  constructor
  · simp only [entryContents, afterL_cons, afterL_nil]
    after_reads_simp
    exact I.A
  · simp only [entryContents, afterL_cons, afterL_nil]
    after_reads_simp
    exact I.c
  · simp only [entryContents, afterL_cons, afterL_nil]
    after_reads_simp
    intro j
    rw [id]
    pointwise
    rw [bits_ten, EReal.coe_mul, ← I.u j]
  · simp only [entryContents, afterL_cons, afterL_nil]
    after_reads_simp
    exact I.u
  · simp only [entryContents, afterL_cons, afterL_nil]
    after_reads_simp
    exact I.b
  · simp only [entryContents, afterL_cons, afterL_nil]
    after_reads_simp
    rw [id]
    pointwise
    have e : ∀ i, launchContents m c (Proc.devRef .tc main_arg1) (ix2 0 i) = (D.b i : EReal) := I.b
    simp only [e, ← EReal.coe_mul]
    exact (coe_sum _).symm
  · simp only [entryContents, afterL_cons, afterL_nil]
    after_reads_simp
    rw [id]
    pointwise
    exact bits_ten
  · simp only [entryContents, afterL_cons, afterL_nil]
    after_reads_simp
    rw [id]
    pointwise
    simp [init]
  · simp only [entryContents, afterL_cons, afterL_nil]
    after_reads_simp
    intro i
    rw [id]
    pointwise
    simp [init]
  · simp only [entryContents, afterL_cons, afterL_nil]
    after_reads_simp
    intro i
    rw [id]
    pointwise
    simp [init]
  · simp only [entryContents, afterL_cons, afterL_nil]
    after_reads_simp
    rw [id]
    pointwise
    simp [init, bit]
  · simp only [entryContents, afterL_cons, afterL_nil]
    after_reads_simp
    intro j
    rw [id]
    pointwise
    have e : launchContents m c (Proc.devRef .tc main_arg3) (ix2 0 j) = (D.u j : EReal) := I.u j
    have ec : launchContents m c (Proc.devRef .tc main_arg2) (ix2 0 j) = D.c j := I.c j
    rw [e, ec, bits_ten, ← EReal.coe_mul]
    simp only [zero_mul, Finset.sum_const_zero, sub_zero]
    exact logistic_eq _

omit I in
/-- Thirty trips carry the last state. -/
theorem carries_iter {s : St} {V0 : Valuation τ sig (Elt Ideal)} (H : Carries D s V0) (g : Good s) (k : ℕ) :
    Carries D ((step D)^[k] s) (STEP^[k] V0) ∧ Good ((step D)^[k] s) := by
  induction k with
  | zero => exact ⟨H, g⟩
  | succ k ih =>
    rw [Function.iterate_succ_apply', Function.iterate_succ_apply']
    exact ⟨carries_step ih.2 ih.1, good_step D ih.2⟩

end Cert.ReferenceIdeal.Value
-- ==== Proof.Claims.lean ====
/- The claims, one by one: the frames, and that the kernel's results are the reference's. -/
module

public import proofs.«01_k».proof.Proof.Result
public import proofs.«01_k».proof.Proof.Model
public import proofs.«01_k».proof.Proof.Gen.Kernel.Frame
public import Idealize.ShloMosaic.Lib.Quiescent

@[expose] public section

set_option maxRecDepth 16384

noncomputable section

namespace Cert.ReferenceIdeal.Value

open Idealize.ShloMosaic Idealize.ShloMosaic.TcCoe Idealize.ShloMosaic.StableHlo Cert.Solver
open Cert.KernelIdeal.Gen (final final_eq first second row0)

variable (m : (ℓ : Loc nD τ sig) → Buf (Elt Ideal) ℓ) {c : Dev nD} {D : Data}
  (I : Inputs D (m ((c : Thread nD τ).loc main_arg0)) (m ((c : Thread nD τ).loc main_arg1))
    (m ((c : Thread nD τ).loc main_arg2)) (m ((c : Thread nD τ).loc main_arg3)))
include I

/-- The reference's loop ends with the last state. -/
theorem carries_final : Carries D (final D) (STEP^[30] (entryContents preI m c)) := by
  rw [final_eq]
  exact (carries_iter (carries_entry m I) (good_init D) 30).1

/-- The reference's first result is the last state's point, scaled by `u`. -/
theorem ref_first : out_main_v23 (STEP^[30] (entryContents preI m c)) = first D := by
  funext y
  obtain ⟨j, rfl⟩ := row0 y
  have hx := (carries_final m I).x j
  have hu : (STEP^[30] (entryContents preI m c)) (Proc.devRef .tc main_arg3) (ix2 0 j) = (D.u j : EReal) :=
    (congrFun (iter_main_arg3 m c 30) _).trans (I.u j)
  pointwise [out_main_v23]
  rw [hx, hu, ← EReal.coe_mul]
  rfl

/-- The reference's second result is the last state's `eta`. -/
theorem ref_second : (STEP^[30] (entryContents preI m c)) (Proc.devRef .tc main_v22_10) = second D := by
  funext y
  obtain ⟨i, rfl⟩ := row0 y
  exact (carries_final m I).eta i

end Cert.ReferenceIdeal.Value

namespace Cert.Proof

open Idealize.ShloMosaic Idealize.SL.Sem Cert.Solver

/-- The frame of the reference. -/
theorem frame_reference : Cert.quiescent_ReferenceIdeal := fun m ρ _ =>
  (θ_run Cert.ReferenceIdeal.defs _ _).mono (fun r h => ⟨fun c => ⟨(h c).2.2.1, (h c).2.2.2.1, (h c).2.2.2.2.1, (h c).2.2.2.2.2⟩,
    sem_eq_zero_of_no_sems (by decide) r.2⟩) (Cert.ReferenceIdeal.Value.run m ρ)

/-- Equal arrays hold the same data. -/
theorem inputs_congr {D : Data} {A A' : FVec Ideal Cert.Pre_finite.S2048x8192 .f32} {b b' : FVec Ideal Cert.Pre_finite.S1x2048 .f32}
    {c c' u u' : FVec Ideal Cert.Pre_finite.S1x8192 .f32} (I : Inputs D A b c u) (hA : A' = A) (hb : b' = b) (hc : c' = c) (hu : u' = u) :
    Inputs D A' b' c' u' := by
  subst hA hb hc hu
  exact I

/-- The data that a device's arguments hold. -/
def dataAt (m : (ℓ : Loc Cert.KernelIdeal.nD Cert.KernelIdeal.τ Cert.KernelIdeal.sig) → Buf (Elt Ideal) ℓ) (c : Dev Cert.KernelIdeal.nD) : Data :=
  dataOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

/-- On real `A`, `b` and `u` the kernel and the reference leave the same results. -/
theorem algebraic : Cert.algebraic_KernelIdeal_ReferenceIdeal_pre_finite := by
  intro m g m' g' hp ha
  refine ⟨fun c => Cert.KernelIdeal.Gen.first (dataAt m c), fun c => Cert.KernelIdeal.Gen.second (dataAt m c),
    (θ_run _ _ _).mono (fun r h c => ?_) (Cert.KernelIdeal.Value.run_blocks m g),
    (θ_run _ _ _).mono (fun r h c => ?_) (Cert.ReferenceIdeal.Value.run m' g')⟩
  · obtain ⟨h5, h6, hr⟩ := h c
    have I := inputs_of (hp c).1 (hp c).2.1 (hp c).2.2
    exact ⟨h5.trans (Cert.KernelIdeal.Gen.arr5 I), h6.trans (Cert.KernelIdeal.Gen.arr6 I), hr⟩
  · obtain ⟨h5, h6, hr⟩ := h c
    have I := inputs_congr (inputs_of (hp c).1 (hp c).2.1 (hp c).2.2) (ha c).1 (ha c).2.1 (ha c).2.2.1 (ha c).2.2.2
    exact ⟨h5.trans (Cert.ReferenceIdeal.Value.ref_first m' I), h6.trans (Cert.ReferenceIdeal.Value.ref_second m' I), hr⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The frames of the three programs, the idealization, and the equality of the results. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  algebraic⟩

end Cert.Proof

end
